-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S10000x128 : Shape := ⟨2, ![10000, 128]⟩
abbrev S2x320000 : Shape := ⟨2, ![2, 320000]⟩
abbrev S_ : Shape := ⟨0, ![]⟩

class Facts : Prop where
  bcast_S_S2x320000 : S_.BroadcastsInDim S2x320000 (![] : Fin 0 → Fin S2x320000.rank)
  reducesTo_S2x320000_S_d0_1 : S2x320000.ReducesTo [0, 1] S_
  h_S_ : 0 < S_.numel

variable [Facts]

def fn {F : FTy → Type} [FloatOps F] (main_arg0 : FVec F S10000x128 .f32) (main_arg1 : IVec S2x320000 32) (main_arg2 : IVec S2x320000 32) : IVec S_ 1 :=
  let main_c : IVec S_ 32 := constantI S_ 32 0#32
  let main_v0 : IVec S2x320000 32 := broadcastInDim S2x320000 ![] bcast_S_S2x320000 main_c
  let main_v1 : IVec S2x320000 1 := cmpi .sge main_arg1 main_v0
  let main_c_0 : IVec S_ 1 := constantI S_ 1 1#1
  let main_v2 : IVec S_ 1 := (fun x v => Host.reduce IntOp.andi x v reducesTo_S2x320000_S_d0_1 h_S_) main_v1 main_c_0
  let main_c_1 : IVec S_ 32 := constantI S_ 32 10000#32
  let main_v3 : IVec S2x320000 32 := broadcastInDim S2x320000 ![] bcast_S_S2x320000 main_c_1
  let main_v4 : IVec S2x320000 1 := cmpi .slt main_arg1 main_v3
  let main_c_2 : IVec S_ 1 := constantI S_ 1 1#1
  let main_v5 : IVec S_ 1 := (fun x v => Host.reduce IntOp.andi x v reducesTo_S2x320000_S_d0_1 h_S_) main_v4 main_c_2
  let main_v6 : IVec S_ 1 := andi main_v2 main_v5
  let main_c_3 : IVec S_ 32 := constantI S_ 32 0#32
  let main_v7 : IVec S2x320000 32 := broadcastInDim S2x320000 ![] bcast_S_S2x320000 main_c_3
  let main_v8 : IVec S2x320000 1 := cmpi .sge main_arg2 main_v7
  let main_c_4 : IVec S_ 1 := constantI S_ 1 1#1
  let main_v9 : IVec S_ 1 := (fun x v => Host.reduce IntOp.andi x v reducesTo_S2x320000_S_d0_1 h_S_) main_v8 main_c_4
  let main_v10 : IVec S_ 1 := andi main_v6 main_v9
  let main_c_5 : IVec S_ 32 := constantI S_ 32 10000#32
  let main_v11 : IVec S2x320000 32 := broadcastInDim S2x320000 ![] bcast_S_S2x320000 main_c_5
  let main_v12 : IVec S2x320000 1 := cmpi .slt main_arg2 main_v11
  let main_c_6 : IVec S_ 1 := constantI S_ 1 1#1
  let main_v13 : IVec S_ 1 := (fun x v => Host.reduce IntOp.andi x v reducesTo_S2x320000_S_d0_1 h_S_) main_v12 main_c_6
  let main_v14 : IVec S_ 1 := andi main_v10 main_v13
  main_v14
-- ==== Kernel.lean ====
abbrev S10000x128 : Shape := ⟨2, ![10000, 128]⟩
abbrev S2x320000 : Shape := ⟨2, ![2, 320000]⟩
abbrev S1x320000 : Shape := ⟨2, ![1, 320000]⟩
abbrev S320000 : Shape := ⟨1, ![320000]⟩
abbrev S20480 : Shape := ⟨1, ![20480]⟩
abbrev S20000 : Shape := ⟨1, ![20000]⟩
abbrev S10000 : Shape := ⟨1, ![10000]⟩
abbrev S1280 : Shape := ⟨1, ![1280]⟩
abbrev S327680 : Shape := ⟨1, ![327680]⟩
abbrev S16 : Shape := ⟨1, ![16]⟩
abbrev S_ : Shape := ⟨0, ![]⟩

abbrev nBuf : Table → Nat
  | .hbm => 12
  | .shared => 1
  | .local .scVector .vmem => 7
  | _ => 0

abbrev bufTy : (tb : Table) → Fin (nBuf tb) → BufTy
  | .hbm, ⟨0, _⟩ => ⟨S10000x128, .f32⟩
  | .hbm, ⟨1, _⟩ => ⟨S2x320000, .i32⟩
  | .hbm, ⟨2, _⟩ => ⟨S2x320000, .i32⟩
  | .hbm, ⟨3, _⟩ => ⟨S1x320000, .i32⟩
  | .hbm, ⟨4, _⟩ => ⟨S320000, .i32⟩
  | .hbm, ⟨5, _⟩ => ⟨S1x320000, .i32⟩
  | .hbm, ⟨6, _⟩ => ⟨S320000, .i32⟩
  | .hbm, ⟨7, _⟩ => ⟨S1x320000, .i32⟩
  | .hbm, ⟨8, _⟩ => ⟨S320000, .i32⟩
  | .hbm, ⟨9, _⟩ => ⟨S1x320000, .i32⟩
  | .hbm, ⟨10, _⟩ => ⟨S320000, .i32⟩
  | .hbm, ⟨11, _⟩ => ⟨S320000, .f32⟩
  | .shared, ⟨0, _⟩ => ⟨S327680, .f32⟩
  | .local .scVector .vmem, ⟨0, _⟩ => ⟨S20480, .f32⟩
  | .local .scVector .vmem, ⟨1, _⟩ => ⟨S20000, .i32⟩
  | .local .scVector .vmem, ⟨2, _⟩ => ⟨S10000, .i32⟩
  | .local .scVector .vmem, ⟨3, _⟩ => ⟨S10000, .i32⟩
  | .local .scVector .vmem, ⟨4, _⟩ => ⟨S10000, .f32⟩
  | .local .scVector .vmem, ⟨5, _⟩ => ⟨S1280, .f32⟩
  | .local .scVector .vmem, ⟨6, _⟩ => ⟨S1280, .f32⟩
  | _, _ => ⟨S10000x128, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 5 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v1_scv : Ref sig .scVector := ⟨.hbm, 4, rfl⟩
abbrev main_v3_scv : Ref sig .scVector := ⟨.hbm, 6, rfl⟩
abbrev main_v5_scv : Ref sig .scVector := ⟨.hbm, 8, rfl⟩
abbrev main_v7_scv : Ref sig .scVector := ⟨.hbm, 10, rfl⟩
abbrev main_v8_scv : Ref sig .scVector := ⟨.hbm, 11, rfl⟩
abbrev cc0_scratch7 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c1280_i32 : BitVec 32 := 1280#32
  let v4 : BitVec 32 := Scalar.addi c0_i32_1 c1280_i32
  let c1_i32 : BitVec 32 := 1#32
  ⟨c0_i32_1, v4, c1_i32⟩
def k0_off1 (k0_t1 : Fin k0_t1_loop.trips) : Fin 1 → Nat :=
  let c0_i32_1 : BitVec 32 := 0#32
  let c1_i32 : BitVec 32 := 1#32
  let arg15 : BitVec 32 := Scf.iv c0_i32_1 c1_i32 k0_t1
  let c16_i32_27 : BitVec 32 := 16#32
  let v20 : BitVec 32 := Scalar.muli arg15 c16_i32_27
  let v21 : Index := Scalar.indexCast v20
  ![v21.toNat]
def k0_off2 (i : grid0.Coords) : Fin 1 → Nat :=
  let arg1 : BitVec 32 := BitVec.ofNat 32 (i 1).val
  let c20000_i32 : BitVec 32 := 20000#32
  let v6 : BitVec 32 := Scalar.muli arg1 c20000_i32
  ![v6.toNat]
@[reducible] def k0_t2_loop : Scf.Loop 32 :=
  let c0_i32_4 : BitVec 32 := 0#32
  let c1250_i32 : BitVec 32 := 1250#32
  let v7 : BitVec 32 := Scalar.addi c0_i32_4 c1250_i32
  let c1_i32_5 : BitVec 32 := 1#32
  ⟨c0_i32_4, v7, c1_i32_5⟩
def k0_off3 (k0_t2 : Fin k0_t2_loop.trips) : Fin 1 → Nat :=
  let c0_i32_4 : BitVec 32 := 0#32
  let c1_i32_5 : BitVec 32 := 1#32
  let arg15 : BitVec 32 := Scf.iv c0_i32_4 c1_i32_5 k0_t2
  let c16_i32_27 : BitVec 32 := 16#32
  let v20 : BitVec 32 := Scalar.muli arg15 c16_i32_27
  let v21 : Index := Scalar.indexCast v20
  ![v21.toNat]

def k0_chk1 (v22 : IVec S16 32) : Prop :=
  (∀ a x, ((![v22] : Fin 1 → IVec S16 32) a x).toNat < S20480.size a)
theorem k0_idx1_inb : ∀ (v22 : IVec S16 32) (k0_hw1 : k0_chk1 v22), ∀ a x, ((![v22] : Fin 1 → IVec S16 32) a x).toNat < S20480.size a := fun v22 k0_hw1 => k0_hw1
@[reducible] def k0_t3_loop : Scf.Loop 32 :=
  let c0_i32_8 : BitVec 32 := 0#32
  let c1250_i32_9 : BitVec 32 := 1250#32
  let v9 : BitVec 32 := Scalar.addi c0_i32_8 c1250_i32_9
  let c1_i32_10 : BitVec 32 := 1#32
  ⟨c0_i32_8, v9, c1_i32_10⟩
def k0_off4 (k0_t3 : Fin k0_t3_loop.trips) : Fin 1 → Nat :=
  let c0_i32_8 : BitVec 32 := 0#32
  let c1_i32_10 : BitVec 32 := 1#32
  let arg15 : BitVec 32 := Scf.iv c0_i32_8 c1_i32_10 k0_t3
  let c16_i32_27 : BitVec 32 := 16#32
  let v20 : BitVec 32 := Scalar.muli arg15 c16_i32_27
  let v21 : Index := Scalar.indexCast v20
  ![v21.toNat]

def k0_chk2 (v24 : IVec S16 32) : Prop :=
  (∀ a x, ((![v24] : Fin 1 → IVec S16 32) a x).toNat < S20480.size a)
theorem k0_idx2_inb : ∀ (v24 : IVec S16 32) (k0_hw2 : k0_chk2 v24), ∀ a x, ((![v24] : Fin 1 → IVec S16 32) a x).toNat < S20480.size a := fun v24 k0_hw2 => k0_hw2
def k0_off5 (i : grid0.Coords) : Fin 1 → Nat :=
  let arg1 : BitVec 32 := BitVec.ofNat 32 (i 1).val
  let c20480_i32 : BitVec 32 := 20480#32
  let v11 : BitVec 32 := Scalar.muli arg1 c20480_i32
  ![v11.toNat]
@[reducible] def k0_t4_loop : Scf.Loop 32 :=
  let c0_i32_13 : BitVec 32 := 0#32
  let c80_i32 : BitVec 32 := 80#32
  let v12 : BitVec 32 := Scalar.addi c0_i32_13 c80_i32
  let c1_i32_14 : BitVec 32 := 1#32
  ⟨c0_i32_13, v12, c1_i32_14⟩
def k0_off6 (k0_t4 : Fin k0_t4_loop.trips) : Fin 1 → Nat :=
  let c0_i32_13 : BitVec 32 := 0#32
  let c1_i32_14 : BitVec 32 := 1#32
  let arg15 : BitVec 32 := Scf.iv c0_i32_13 c1_i32_14 k0_t4
  let c16_i32_27 : BitVec 32 := 16#32
  let v20 : BitVec 32 := Scalar.muli arg15 c16_i32_27
  let v21 : Index := Scalar.indexCast v20
  ![v21.toNat]
@[reducible] def k0_t5_loop : Scf.Loop 32 :=
  let c0_i32_17 : BitVec 32 := 0#32
  let c16_i32_18 : BitVec 32 := 16#32
  let v14 : BitVec 32 := Scalar.addi c0_i32_17 c16_i32_18
  let c1_i32_19 : BitVec 32 := 1#32
  ⟨c0_i32_17, v14, c1_i32_19⟩
def k0_off7 (i : grid0.Coords) (k0_t5 : Fin k0_t5_loop.trips) : Fin 1 → Nat :=
  let c0_i32_17 : BitVec 32 := 0#32
  let c1_i32_19 : BitVec 32 := 1#32
  let arg15 : BitVec 32 := Scf.iv c0_i32_17 c1_i32_19 k0_t5
  let c20480_i32_27 : BitVec 32 := 20480#32
  let v20 : BitVec 32 := Scalar.muli arg15 c20480_i32_27
  let arg1 : BitVec 32 := BitVec.ofNat 32 (i 1).val
  let c1280_i32_28 : BitVec 32 := 1280#32
  let v21 : BitVec 32 := Scalar.muli arg1 c1280_i32_28
  let v22 : BitVec 32 := Scalar.addi v20 v21
  ![v22.toNat]
@[reducible] def k0_t6_loop : Scf.Loop 32 :=
  let c0_i32_30 : BitVec 32 := 0#32
  let c80_i32_31 : BitVec 32 := 80#32
  let v23 : BitVec 32 := Scalar.addi c0_i32_30 c80_i32_31
  let c1_i32_32 : BitVec 32 := 1#32
  ⟨c0_i32_30, v23, c1_i32_32⟩
def k0_off8 (k0_t6 : Fin k0_t6_loop.trips) : Fin 1 → Nat :=
  let c0_i32_30 : BitVec 32 := 0#32
  let c1_i32_32 : BitVec 32 := 1#32
  let arg17 : BitVec 32 := Scf.iv c0_i32_30 c1_i32_32 k0_t6
  let c16_i32_35 : BitVec 32 := 16#32
  let v25 : BitVec 32 := Scalar.muli arg17 c16_i32_35
  let v26 : Index := Scalar.indexCast v25
  ![v26.toNat]
def k0_off9 (i : grid0.Coords) : Fin 1 → Nat :=
  let arg1 : BitVec 32 := BitVec.ofNat 32 (i 1).val
  let c1280_i32_21 : BitVec 32 := 1280#32
  let v16 : BitVec 32 := Scalar.muli arg1 c1280_i32_21
  ![v16.toNat]
def k0_off10 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v17 : BitVec 32 := Scalar.muli v1 c10000_i32
  ![v17.toNat]
@[reducible] def k0_t7_loop : Scf.Loop 32 :=
  let c0_i32_24 : BitVec 32 := 0#32
  let c625_i32 : BitVec 32 := 625#32
  let v18 : BitVec 32 := Scalar.addi c0_i32_24 c625_i32
  let c1_i32_25 : BitVec 32 := 1#32
  ⟨c0_i32_24, v18, c1_i32_25⟩
def k0_off11 (k0_t7 : Fin k0_t7_loop.trips) : Fin 1 → Nat :=
  let c0_i32_24 : BitVec 32 := 0#32
  let c1_i32_25 : BitVec 32 := 1#32
  let arg15 : BitVec 32 := Scf.iv c0_i32_24 c1_i32_25 k0_t7
  let c16_i32_27 : BitVec 32 := 16#32
  let v20 : BitVec 32 := Scalar.muli arg15 c16_i32_27
  let v21 : Index := Scalar.indexCast v20
  ![v21.toNat]

def k0_chk3 (v22 : IVec S16 32) : Prop :=
  (∀ a x, ((![v22] : Fin 1 → IVec S16 32) a x).toNat < S20480.size a)
theorem k0_idx3_inb : ∀ (v22 : IVec S16 32) (k0_hw3 : k0_chk3 v22), ∀ a x, ((![v22] : Fin 1 → IVec S16 32) a x).toNat < S20480.size a := fun v22 k0_hw3 => k0_hw3
def k0_off12 (k0_t7 : Fin k0_t7_loop.trips) : Fin 1 → Nat :=
  let c0_i32_24 : BitVec 32 := 0#32
  let c1_i32_25 : BitVec 32 := 1#32
  let arg15 : BitVec 32 := Scf.iv c0_i32_24 c1_i32_25 k0_t7
  let c16_i32_27 : BitVec 32 := 16#32
  let v20 : BitVec 32 := Scalar.muli arg15 c16_i32_27
  let v24 : Index := Scalar.indexCast v20
  ![v24.toNat]

def k0_chk4 (v27 : IVec S16 32) : Prop :=
  (∀ a x, ((![v27] : Fin 1 → IVec S16 32) a x).toNat < S20480.size a)
theorem k0_idx4_inb : ∀ (v27 : IVec S16 32) (k0_hw4 : k0_chk4 v27), ∀ a x, ((![v27] : Fin 1 → IVec S16 32) a x).toNat < S20480.size a := fun v27 k0_hw4 => k0_hw4
def k0_off13 (k0_t7 : Fin k0_t7_loop.trips) : Fin 1 → Nat :=
  let c0_i32_24 : BitVec 32 := 0#32
  let c1_i32_25 : BitVec 32 := 1#32
  let arg15 : BitVec 32 := Scf.iv c0_i32_24 c1_i32_25 k0_t7
  let c16_i32_27 : BitVec 32 := 16#32
  let v20 : BitVec 32 := Scalar.muli arg15 c16_i32_27
  let v32 : Index := Scalar.indexCast v20
  ![v32.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S10000x128 : Shape := ⟨2, ![10000, 128]⟩
abbrev S2x320000 : Shape := ⟨2, ![2, 320000]⟩
abbrev S1x320000 : Shape := ⟨2, ![1, 320000]⟩
abbrev S320000 : Shape := ⟨1, ![320000]⟩
abbrev S_ : Shape := ⟨0, ![]⟩
abbrev S10000 : Shape := ⟨1, ![10000]⟩
abbrev S320000x1 : Shape := ⟨2, ![320000, 1]⟩

abbrev nBuf : Space → Nat
  | .hbm => 59
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S2x320000, .i32⟩
  | .hbm, ⟨3, _⟩ => ⟨S1x320000, .i32⟩
  | .hbm, ⟨4, _⟩ => ⟨S320000, .i32⟩
  | .hbm, ⟨5, _⟩ => ⟨S1x320000, .i32⟩
  | .hbm, ⟨6, _⟩ => ⟨S320000, .i32⟩
  | .hbm, ⟨7, _⟩ => ⟨S1x320000, .i32⟩
  | .hbm, ⟨8, _⟩ => ⟨S320000, .i32⟩
  | .hbm, ⟨9, _⟩ => ⟨S_, .f32⟩
  | .hbm, ⟨10, _⟩ => ⟨S10000, .f32⟩
  | .hbm, ⟨11, _⟩ => ⟨S_, .i32⟩
  | .hbm, ⟨12, _⟩ => ⟨S320000, .i32⟩
  | .hbm, ⟨13, _⟩ => ⟨S320000, .i1⟩
  | .hbm, ⟨14, _⟩ => ⟨S_, .i32⟩
  | .hbm, ⟨15, _⟩ => ⟨S320000, .i32⟩
  | .hbm, ⟨16, _⟩ => ⟨S320000, .i32⟩
  | .hbm, ⟨17, _⟩ => ⟨S320000, .i32⟩
  | .hbm, ⟨18, _⟩ => ⟨S320000x1, .i32⟩
  | .hbm, ⟨19, _⟩ => ⟨S_, .f32⟩
  | .hbm, ⟨20, _⟩ => ⟨S320000, .f32⟩
  | .hbm, ⟨21, _⟩ => ⟨S10000, .f32⟩
  | .hbm, ⟨22, _⟩ => ⟨S1x320000, .i32⟩
  | .hbm, ⟨23, _⟩ => ⟨S320000, .i32⟩
  | .hbm, ⟨24, _⟩ => ⟨S_, .f32⟩
  | .hbm, ⟨25, _⟩ => ⟨S10000, .f32⟩
  | .hbm, ⟨26, _⟩ => ⟨S_, .i32⟩
  | .hbm, ⟨27, _⟩ => ⟨S320000, .i32⟩
  | .hbm, ⟨28, _⟩ => ⟨S320000, .i1⟩
  | .hbm, ⟨29, _⟩ => ⟨S_, .i32⟩
  | .hbm, ⟨30, _⟩ => ⟨S320000, .i32⟩
  | .hbm, ⟨31, _⟩ => ⟨S320000, .i32⟩
  | .hbm, ⟨32, _⟩ => ⟨S320000, .i32⟩
  | .hbm, ⟨33, _⟩ => ⟨S320000x1, .i32⟩
  | .hbm, ⟨34, _⟩ => ⟨S_, .f32⟩
  | .hbm, ⟨35, _⟩ => ⟨S320000, .f32⟩
  | .hbm, ⟨36, _⟩ => ⟨S10000, .f32⟩
  | .hbm, ⟨37, _⟩ => ⟨S_, .i32⟩
  | .hbm, ⟨38, _⟩ => ⟨S320000, .i32⟩
  | .hbm, ⟨39, _⟩ => ⟨S320000, .i1⟩
  | .hbm, ⟨40, _⟩ => ⟨S_, .i32⟩
  | .hbm, ⟨41, _⟩ => ⟨S320000, .i32⟩
  | .hbm, ⟨42, _⟩ => ⟨S320000, .i32⟩
  | .hbm, ⟨43, _⟩ => ⟨S320000, .i32⟩
  | .hbm, ⟨44, _⟩ => ⟨S320000x1, .i32⟩
  | .hbm, ⟨45, _⟩ => ⟨S320000, .f32⟩
  | .hbm, ⟨46, _⟩ => ⟨S_, .i32⟩
  | .hbm, ⟨47, _⟩ => ⟨S320000, .i32⟩
  | .hbm, ⟨48, _⟩ => ⟨S320000, .i1⟩
  | .hbm, ⟨49, _⟩ => ⟨S_, .i32⟩
  | .hbm, ⟨50, _⟩ => ⟨S320000, .i32⟩
  | .hbm, ⟨51, _⟩ => ⟨S320000, .i32⟩
  | .hbm, ⟨52, _⟩ => ⟨S320000, .i32⟩
  | .hbm, ⟨53, _⟩ => ⟨S320000x1, .i32⟩
  | .hbm, ⟨54, _⟩ => ⟨S320000, .f32⟩
  | .hbm, ⟨55, _⟩ => ⟨S320000, .f32⟩
  | .hbm, ⟨56, _⟩ => ⟨S_, .f32⟩
  | .hbm, ⟨57, _⟩ => ⟨S320000, .f32⟩
  | .hbm, ⟨58, _⟩ => ⟨S320000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_c_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_c_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_8 : Ref sig .tc := ⟨.hbm, 46, rfl⟩
abbrev main_v33 : Ref sig .tc := ⟨.hbm, 47, rfl⟩
abbrev main_v34 : Ref sig .tc := ⟨.hbm, 48, rfl⟩
abbrev main_c_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Proof.Vals.lean ====
/- The values of the degree kernel, as functions over an arbitrary float instance: what a tile's count table holds after
   any number of list entries, the sum of the tables of one SparseCore, and the result. Everything is indexed by natural
   numbers, so that a statement about a slice of a buffer is arithmetic. -/
module

public import Idealize.ShloMosaic.Lib.SparseCore.Ops
public import Idealize.ShloMosaic.Lib.Tactic

@[expose] public section

noncomputable section

namespace Cert.Proof.Vals

open Idealize.ShloMosaic

/-- A list of `n` elements. -/
abbrev L1 (n : ℕ) : Shape := ⟨1, ![n]⟩

/-- Position `q` of a list. -/
abbrev ix {n : ℕ} (q : ℕ) (h : q < n) : (L1 n).Idx := fun a => match a with | ⟨0, _⟩ => ⟨q, h⟩

/-- A position of a list is its number's. -/
theorem ix_self {n : ℕ} (j : (L1 n).Idx) (h : (j 0).val < n) : ix (j 0).val h = j := by
  funext a; match a with | ⟨0, _⟩ => rfl

/-- Two positions of a list with the same number are equal. -/
theorem idx_ext {n : ℕ} {i j : (L1 n).Idx} (h : (i 0).val = (j 0).val) : i = j := by
  funext a; match a with | ⟨0, _⟩ => exact Fin.ext h

/-- The four index lists the kernel is handed. -/
structure Tabs where
  hd : (L1 320000).Idx → BitVec 32
  tl : (L1 320000).Idx → BitVec 32
  sr : (L1 320000).Idx → BitVec 32
  ds : (L1 320000).Idx → BitVec 32

/-- Every index names a node. -/
structure Tabs.Ok (tb : Tabs) : Prop where
  hd : ∀ j, (tb.hd j).toNat < 10000
  tl : ∀ j, (tb.tl j).toNat < 10000
  sr : ∀ j, (tb.sr j).toNat < 10000
  ds : ∀ j, (tb.ds j).toNat < 10000

/-- Entry `q` of a list of words, as a number. -/
def ent (f : (L1 320000).Idx → BitVec 32) (q : ℕ) : ℕ := if h : q < 320000 then (f (ix q h)).toNat else 0

theorem ent_lt {f : (L1 320000).Idx → BitVec 32} (h : ∀ j, (f j).toNat < 10000) (q : ℕ) : ent f q < 10000 := by
  unfold ent; split
  · exact h _
  · omega

theorem ent_eq (f : (L1 320000).Idx → BitVec 32) (j : (L1 320000).Idx) (q : ℕ) (e : (j 0).val = q) : (f j).toNat = ent f q := by
  subst e
  have h : (j 0).val < 320000 := (j 0).isLt
  unfold ent; rw [dif_pos h, ix_self]

/-- The bins tile `k` counts, in the order it counts them: its chunk of the destinations, then its chunk of the sources in
    the upper half of the table. -/
def bins (tb : Tabs) (k q : ℕ) : ℕ :=
  if q < 20000 then ent tb.ds (20000 * k + q) else ent tb.sr (20000 * k + (q - 20000)) + 10240

theorem bins_lt {tb : Tabs} (h : tb.Ok) (k q : ℕ) : bins tb k q < 20480 := by
  unfold bins; split
  · have := ent_lt h.ds (20000 * k + q); omega
  · have := ent_lt h.sr (20000 * k + (q - 20000)); omega

variable {F : FTy → Type} [FloatOps F]

abbrev zeroF : F .f32 := Scalar.ofBits .f32 0x00000000#32
abbrev oneF : F .f32 := Scalar.ofBits .f32 0x3F800000#32
abbrev halfF : F .f32 := Scalar.ofBits .f32 0x3F000000#32

/-- The count table, at bin `b`, after the first `n` entries of the sequence of bins `w`. -/
def tally (w : ℕ → ℕ) : ℕ → ℕ → F .f32
  | 0, _ => zeroF
  | n + 1, b => if b = w n then FloatOps.idxAddf (tally w n b) oneF else tally w n b

/-- Tile `k`'s finished count table. -/
def hist (tb : Tabs) (k b : ℕ) : F .f32 := tally (bins tb k) 40000 b

/-- The sum of the first `n` tiles' tables, at bin `b`. -/
def part (tb : Tabs) : ℕ → ℕ → F .f32
  | 0, _ => zeroF
  | n + 1, b => FloatOps.addf (part tb n b) (hist tb n b)

/-- The sum of all sixteen tables. -/
def tot (tb : Tabs) (b : ℕ) : F .f32 := part tb 16 b

/-- The result at edge `n`. -/
def res (tb : Tabs) (n : ℕ) : F .f32 :=
  FloatOps.mulf (FloatOps.addf (tot tb (ent tb.tl n)) (tot tb (ent tb.hd n + 10240))) halfF

/-- A property of a running value, kept by each lane in turn, holds after all the lanes. -/
theorem foldl_lanes {α : Type} {N : ℕ} (step : α → Fin N → α) (P : ℕ → α → Prop) (g : α) (h0 : P 0 g)
    (hs : ∀ (m : Fin N) (g : α), P m.val g → P (m.val + 1) (step g m)) : P N ((List.finRange N).foldl step g) := by
  have key : ∀ m, m ≤ N → P m (((List.finRange N).take m).foldl step g) := by
    intro m
    induction m with
    | zero => intro _; simpa using h0
    | succ m ih =>
      intro hm
      have hm' : m < (List.finRange N).length := by rw [List.length_finRange]; omega
      rw [List.take_succ_eq_append_getElem hm', List.foldl_append, List.foldl_cons, List.foldl_nil, List.getElem_finRange]
      exact hs ⟨m, by omega⟩ _ (ih (by omega))
  have := key N le_rfl
  rwa [List.take_of_length_le (by rw [List.length_finRange])] at this

/-- One store with add of sixteen ones, at sixteen consecutive entries of the sequence, takes the table sixteen entries on. -/
theorem storeIdx_tally (w : ℕ → ℕ) (n : ℕ) (g : (L1 20480).Idx → F .f32) (hg : ∀ j, g j = tally w n (j 0).val)
    (v : IVec (L1 16) 32) (hv : ∀ x : (L1 16).Idx, (v x).toNat = w (n + (x 0).val))
    (one : (L1 16).Idx → F .f32) (hone : ∀ x, one x = oneF)
    (h : ∀ a x, ((![v] : Fin 1 → IVec (L1 16) 32) a x).toNat < (L1 20480).size a) :
    ∀ j : (L1 20480).Idx,
      storeIdx (F := F) (s := L1 20480) (e := .f32) (d := ![16]) g ![v] one (fun _ => 1#1) true h j = tally w (n + 16) (j 0).val := by
  unfold storeIdx
  refine foldl_lanes (N := 16) _ (fun m (g : (L1 20480).Idx → F .f32) => ∀ j : (L1 20480).Idx, g j = tally w (n + m) (j 0).val) g hg ?_
  intro m g ih j
  have hi0 : ((idxAt (s := L1 20480) ![v] h (Shape.ofLane (d := ![16]) m)) 0).val = w (n + m.val) := hv (Shape.ofLane (d := ![16]) m)
  generalize idxAt (s := L1 20480) ![v] h (Shape.ofLane (d := ![16]) m) = i at hi0
  rw [show n + (m.val + 1) = (n + m.val) + 1 from rfl, tally]
  refine (congrFun (if_pos (show (1#1 : BitVec 1) = 1 from rfl)) j).trans ?_
  by_cases hj : (j 0).val = w (n + m.val)
  · rw [if_pos hj]
    refine (if_pos (fun a => by match a with | ⟨0, _⟩ => exact hj.trans hi0.symm)).trans ((if_pos rfl).trans ?_)
    rw [ih, hi0, hone, hj]; rfl
  · rw [if_neg hj]
    exact (if_neg (fun e => hj ((e 0).trans hi0))).trans (ih j)

end Cert.Proof.Vals

end
-- ==== Proof.Range.lean ====
/- What the range precondition says, word by word: every index of both index arrays names a node. And how one row of an
   index array reads once it is sliced out and laid as a list. -/
module

public import proofs.«01_k».proof.Proof.Vals
public import proofs.«01_k».proof.Pre_in_range
public import Idealize.ShloMosaic.Lib.ReduceAll
public import Idealize.ShloMosaic.Lib.Affine
public import Idealize.ShloMosaic.Lib.Pipeline.Value

@[expose] public section

noncomputable section

namespace Cert.Proof.Vals

open Idealize.ShloMosaic

/-- An index array: two rows of words. -/
abbrev E2 : Shape := ⟨2, ![2, 320000]⟩

/-- One row of an index array. -/
abbrev E1 : Shape := ⟨2, ![1, 320000]⟩

/-- The entry of row `r` at a position of a list. -/
abbrev at2 (r : Fin 2) (j : (L1 320000).Idx) : E2.Idx := fun a => match a with | ⟨0, _⟩ => r | ⟨1, _⟩ => j 0

/-- Row `r` of an index array, as a list. -/
def rowOf (r : Fin 2) (x : E2.Idx → BitVec 32) : (L1 320000).Idx → BitVec 32 := fun j => x (at2 r j)

/-- Slicing row `r` out and reshaping it to a list gives the row. -/
theorem flat_row (r : Fin 2) (x : E2.Idx → BitVec 32) (off : Fin 2 → ℕ) (ho : off = ![r.val, 0]) (hs : E2.Slices off E1)
    (hc : E1.ShapeCasts (L1 320000)) : shapeCast (L1 320000) (extractStridedSlice E1 off x hs) hc = rowOf r x := by
  subst ho
  funext j
  refine (shapeCast_dropUnit_apply (n := 1) ![320000] _ hc j).trans ?_
  unfold extractStridedSlice rowOf
  congr 1
  funext a
  apply Fin.ext
  match a with
  | ⟨0, _⟩ => show r.val + 0 = r.val; omega
  | ⟨1, _⟩ => show 0 + (j 0).val = (j 0).val; omega

/-- A word between zero and ten thousand, read signed, is below ten thousand read unsigned. -/
theorem small_word (x : BitVec 32) (h0 : 0 ≤ x.toInt) (h1 : x.toInt < 10000) : x.toNat < 10000 := by
  have := BitVec.toInt_eq_toNat_cond x
  have hx := x.isLt
  split at this <;> omega

section
variable {F : FTy → Type} [FloatOps F] [Cert.Pre_in_range.Facts]

/-- The precondition holds only where every word of both index arrays is below ten thousand. -/
theorem in_range (a0 : FVec F Cert.Pre_in_range.S10000x128 .f32) (a1 a2 : IVec E2 32)
    (h : Cert.Pre_in_range.fn (F := F) a0 a1 a2 = fun _ => 1#1) :
    (∀ i, (a1 i).toNat < 10000) ∧ (∀ i, (a2 i).toNat < 10000) := by
  have e := congrFun h (Shape.Idx.first Cert.Pre_in_range.Facts.h_S_)
  unfold Cert.Pre_in_range.fn at e
  obtain ⟨e, e4⟩ := IntOp.andi_eq_one.1 e
  obtain ⟨e, e3⟩ := IntOp.andi_eq_one.1 e
  obtain ⟨e1, e2⟩ := IntOp.andi_eq_one.1 e
  haveI : Subsingleton Cert.Pre_in_range.S_.Idx := ⟨fun a b => funext fun x => x.elim0⟩
  exact ⟨fun i => small_word _ (IntOp.cmpi_sge.1 (Host.reduce_andi_all _ _ _ _ _ e1 i)) (IntOp.cmpi_slt.1 (Host.reduce_andi_all _ _ _ _ _ e2 i)),
    fun i => small_word _ (IntOp.cmpi_sge.1 (Host.reduce_andi_all _ _ _ _ _ e3 i)) (IntOp.cmpi_slt.1 (Host.reduce_andi_all _ _ _ _ _ e4 i))⟩
end

/-- The four lists, of two index arrays. -/
def rows (a1 a2 : E2.Idx → BitVec 32) : Tabs := ⟨rowOf 0 a1, rowOf 1 a1, rowOf 0 a2, rowOf 1 a2⟩

/-- The rows of index arrays whose words are all nodes are lists of nodes. -/
theorem rows_ok (a1 a2 : E2.Idx → BitVec 32) (h1 : ∀ i, (a1 i).toNat < 10000) (h2 : ∀ i, (a2 i).toNat < 10000) : (rows a1 a2).Ok :=
  ⟨fun _ => h1 _, fun _ => h1 _, fun _ => h2 _, fun _ => h2 _⟩

end Cert.Proof.Vals

end
-- ==== Proof.KI.Setup.lean ====
/- The degree kernel's launch set-up: the ghost state, the two meetings of the tiles at the subcore barrier as one schedule,
   what each tile deposits for the others at the first meeting and hands over at the second, and what the handshakes carry. -/
module

public import proofs.«01_k».proof.Defs
public import proofs.«01_k».proof.Proof.Vals
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.KI

open Cert.KernelIdeal Cert.KernelIdeal.Gen Cert.Proof.Vals

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The facts the launch decides of the program. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The one call has two stages: the tiles' first meeting at the barrier, and their second. -/
@[reducible] def blocks : Blocks 1 2 where
  first := fun _ => 0
  last := fun _ => 1
  fst := fun n => 2 * n
  blk := fun _ ι => ∃ j, ι = some j
  first_le_last := fun _ => by decide
  fst_val := fun q => by obtain rfl : q = 0 := Subsingleton.elim _ _; rfl
  fst_le := fun n q h => by
    obtain rfl : q = 0 := Subsingleton.elim _ _
    obtain rfl : n = 0 := Nat.le_zero.mp h
    exact le_rfl
  last_lt_fst := fun q => by obtain rfl : q = 0 := Subsingleton.elim _ _; decide
  blk_iff := fun _ ι => ⟨fun ⟨j, h⟩ => ⟨j, Fin.zero_le _, Fin.le_def.mpr (Nat.le_of_lt_succ j.isLt), h⟩, fun ⟨j, _, _, h⟩ => ⟨j, h⟩⟩

attribute [local instance] blocks

/-! ## The resource algebra: the handshakes' rounds library, the barrier cells', the transfers' counters -/

abbrev UH : Type := URounds (GSem nD τ sig) ℕ
abbrev UB : Type := URounds (GSem nD τ sig) ℕ
abbrev UU : Type := UH × (UB × Counters)

local notation "𝕄" => MT nD τ sig (HIx 2) (Elt F) ℕ UU ℕ

abbrev EH : Emb UH (MT nD τ sig (HIx 2) (Elt F) ℕ UU ℕ) := embL
/-- The barrier cells' rounds library: the left half of the right factor. -/
def EB : Emb UB (MT nD τ sig (HIx 2) (Elt F) ℕ UU ℕ) :=
  ((Emb.inl : Emb UB (UB × Counters)).trans (Emb.inr : Emb (UB × Counters) UU)).trans
    (uEmb (nD := nD) (sig := sig) (Ix := HIx 2) (Val := Elt F) (Name := ℕ) (U := UU) (Lvl := ℕ)).toEmb
instance EB_landsIn : (EB : Emb UB 𝕄).LandsIn (upEmb : UEmb _ 𝕄) := by unfold EB; infer_instance

/-! ## The buffers -/

abbrev hdLoc (d : Dev nD) : Loc nD τ sig := (SparseCore.T d).loc main_v1
abbrev tlLoc (d : Dev nD) : Loc nD τ sig := (SparseCore.T d).loc main_v3
abbrev srLoc (d : Dev nD) : Loc nD τ sig := (SparseCore.T d).loc main_v5
abbrev dsLoc (d : Dev nD) : Loc nD τ sig := (SparseCore.T d).loc main_v7
abbrev oLoc (d : Dev nD) : Loc nD τ sig := (SparseCore.T d).loc main_v8
/-- SparseCore `c`'s shared scratch, as every tile of it addresses it. -/
abbrev shRef (c : Fin τ.nSC) : DevRef τ sig := ⟨.shared, ⟨0, by decide⟩, c⟩
abbrev shLoc (d : Dev nD) (c : Fin τ.nSC) : Loc nD τ sig := (d, shRef c)

/-- Positions `lo` up to `lo + len` of a list. -/
def seg (n lo len : ℕ) : Finset (L1 n).Idx := Finset.univ.filter fun i => lo ≤ (i 0).val ∧ (i 0).val < lo + len

theorem mem_seg {n lo len : ℕ} {i : (L1 n).Idx} : i ∈ seg n lo len ↔ lo ≤ (i 0).val ∧ (i 0).val < lo + len := by
  unfold seg; rw [Finset.mem_filter]; exact ⟨fun h => h.2, fun h => ⟨Finset.mem_univ _, h⟩⟩

/-- Segments that do not meet as intervals are disjoint. -/
theorem seg_disjoint {n a la b lb : ℕ} (h : a + la ≤ b ∨ b + lb ≤ a) : Disjoint (seg n a la) (seg n b lb) := by
  rw [Finset.disjoint_left]; intro i hi hj; rw [mem_seg] at hi hj; omega

/-- Equal consecutive segments make one segment. -/
theorem seg_biUnion {n lo len k : ℕ} :
    (Finset.univ : Finset (Fin k)).biUnion (fun t : Fin k => seg n (lo + len * t.val) len) = seg n lo (len * k) := by
  ext i
  simp only [Finset.mem_biUnion, Finset.mem_univ, true_and, mem_seg]
  constructor
  · rintro ⟨t, h1, h2⟩
    have : len * t.val + len ≤ len * k := by have := Nat.mul_le_mul_left len t.isLt; rw [Nat.succ_eq_add_one, Nat.mul_add, Nat.mul_one] at this; exact this
    omega
  · rintro ⟨h1, h2⟩
    have hl : 0 < len := by rcases Nat.eq_zero_or_pos len with e | e; · subst e; omega
                            · exact e
    refine ⟨⟨((i 0).val - lo) / len, by rw [Nat.div_lt_iff_lt_mul hl, Nat.mul_comm]; omega⟩, ?_, ?_⟩
    · have := Nat.mul_div_le ((i 0).val - lo) len
      show lo + len * (((i 0).val - lo) / len) ≤ _; omega
    · have := Nat.lt_mul_div_succ ((i 0).val - lo) hl
      rw [Nat.mul_add, Nat.mul_one] at this
      show _ < lo + len * (((i 0).val - lo) / len) + len; omega

/-- Different members of a row of equal segments are disjoint. -/
theorem segs_disjoint {n lo len k : ℕ} : ∀ a ∈ (Finset.univ : Finset (Fin k)), ∀ b ∈ (Finset.univ : Finset (Fin k)), a ≠ b →
    Disjoint (seg n (lo + len * a.val) len) (seg n (lo + len * b.val) len) := by
  intro a _ b _ h
  apply seg_disjoint
  have : a.val ≠ b.val := fun e => h (Fin.ext e)
  rcases Nat.lt_or_gt_of_ne this with h | h
  · left; have := Nat.mul_le_mul_left len (Nat.succ_le_of_lt h); rw [Nat.succ_eq_add_one, Nat.mul_add, Nat.mul_one] at this; omega
  · right; have := Nat.mul_le_mul_left len (Nat.succ_le_of_lt h); rw [Nat.succ_eq_add_one, Nat.mul_add, Nat.mul_one] at this; omega

/-- The whole list. -/
theorem seg_univ (n : ℕ) : seg n 0 n = Finset.univ := by
  ext i; rw [mem_seg]; exact ⟨fun _ => Finset.mem_univ _, fun _ => ⟨Nat.zero_le _, by have : (i 0).val < n := (i 0).isLt; omega⟩⟩

/-- The shared scratch held on a row of equal segments is it held on each. -/
theorem sh_segs (d : Dev nD) (c : Fin τ.nSC) {lo len k : ℕ} (q : PosShare TreeShare) (f : Buf (Elt F) (shLoc d c)) :
    (shLoc d c ↦[seg 327680 lo (len * k)]{q} f : sProp 𝕄) = bigSep Finset.univ fun t : Fin k => shLoc d c ↦[seg 327680 (lo + len * t.val) len]{q} f := by
  rw [← pointsTo_biUnion Finset.univ (ℓ := shLoc d c) (fun t : Fin k => seg 327680 (lo + len * t.val) len) segs_disjoint, seg_biUnion]

/-- The result held on a row of equal segments is it held on each. -/
theorem o_segs (d : Dev nD) {lo len k : ℕ} (q : PosShare TreeShare) (f : Buf (Elt F) (oLoc d)) :
    (oLoc d ↦[seg 320000 lo (len * k)]{q} f : sProp 𝕄) = bigSep Finset.univ fun t : Fin k => oLoc d ↦[seg 320000 (lo + len * t.val) len]{q} f := by
  rw [← pointsTo_biUnion Finset.univ (ℓ := oLoc d) (fun t : Fin k => seg 320000 (lo + len * t.val) len) segs_disjoint, seg_biUnion]

/-- Member `i`'s share of `q` when it is dealt among `n`. -/
abbrev deal (n : ℕ) (q : PosShare TreeShare) (i : Fin n) : PosShare TreeShare := Transfers.dealOf q Finset.univ i

/-- A points-to at a share is one at each of the shares it is dealt into. -/
theorem pts_deal {ℓ : Loc nD τ sig} (n : ℕ) (q : PosShare TreeShare) (I : Finset (Idx ℓ)) (f : Buf (Elt F) ℓ) :
    (ℓ ↦[I]{q} f : sProp 𝕄) = bigSep Finset.univ fun i : Fin (n + 1) => ℓ ↦[I]{deal (n + 1) q i} f :=
  Transfers.pointsTo_deal Finset.univ Finset.univ_nonempty q

/-! ## The values -/

variable [FloatOps F] (tb : Dev nD → Tabs)

/-- The shared scratch with every tile's finished count table in its row. -/
def shH (d : Dev nD) (c : Fin τ.nSC) : Buf (Elt F) (shLoc d c) := fun (i : (L1 327680).Idx) => (hist (tb d) ((i 0).val / 20480) ((i 0).val % 20480) : F .f32)
/-- The shared scratch with the summed table in its first row. -/
def shR (d : Dev nD) (c : Fin τ.nSC) : Buf (Elt F) (shLoc d c) := fun (i : (L1 327680).Idx) => (tot (tb d) (i 0).val : F .f32)
/-- The result. -/
def oR (d : Dev nD) : Buf (Elt F) (oLoc d) := fun (i : (L1 320000).Idx) => (res (tb d) (i 0).val : F .f32)

/-! ## The barrier cells -/

/-- Tile `(c, j)`'s barrier semaphore of device `d`. -/
abbrev bcell (d : Dev nD) (c : Fin τ.nSC) (j : Fin 16) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin 16) : isBar (bcell d c j) = true := by simp [isBar]

/-- The key of tile `(c, k)`'s deposit: a name of ghost state only, apart from the barrier cells. -/
abbrev dkey (d : Dev nD) (c : Fin τ.nSC) (k : Fin 16) : GSem nD τ sig := (V d c k, .reg sc_done)

/-- Piece `j` of row `k` of the shared scratch, holding tile `k`'s counts. -/
abbrev piece (d : Dev nD) (c : Fin τ.nSC) (k j : Fin 16) : sProp 𝕄 := shLoc d c ↦[seg 327680 (20480 * k.val + 1280 * j.val) 1280]{fullShare} shH tb d c
/-- Tile `j`'s right to take piece `j` of row `k`: a token of its own. -/
abbrev tok (d : Dev nD) (c : Fin τ.nSC) (k j : Fin 16) : sProp 𝕄 := dutyTok EB (dkey d c k) 0 j.val
/-- Where tile `k` deposits its row: nothing yet, or each piece there until its taker swaps its token for it. -/
def bank (d : Dev nD) (c : Fin τ.nSC) (k : Fin 16) : sProp 𝕄 :=
  iprop(roundAuth EB (dkey d c k) 0 ∅ 0 ∨ (roundAuth EB (dkey d c k) 1 ∅ 0 ∗ bigSep Finset.univ fun j : Fin 16 => iprop(piece tb d c k j ∨ tok d c k j)))
/-- Tile `k` has deposited its row. -/
abbrev deps (d : Dev nD) (c : Fin τ.nSC) (k : Fin 16) : sProp 𝕄 := reached EB (dkey d c k) 1
instance bank_storable (d : Dev nD) (c : Fin τ.nSC) (k : Fin 16) : BI.Storable (upEmb : UEmb _ 𝕄) (bank tb d c k) := by unfold bank; infer_instance
/-- Tile `j`'s share of piece `k` of the summed table. -/
abbrev sumPiece (d : Dev nD) (c : Fin τ.nSC) (k j : Fin 16) : sProp 𝕄 := shLoc d c ↦[seg 327680 (1280 * k.val) 1280]{deal 16 fullShare j} shR tb d c

/-- What duty `n` of tile `j`'s round hands over: the first sixteen are the arrivals at the first meeting, each telling that the
    arriving tile has deposited its row; the next sixteen those at the second, each telling that every tile has, and handing
    over the share of the arriving tile's piece of the summed table. -/
def bPay (g : GSem nD τ sig) (n : ℕ) : sProp 𝕄 :=
  match g with
  | ((d, .scVector c j), _) => if n < 16 then deps d c (Fin.ofNat 16 n)
      else iprop((bigSep Finset.univ fun k : Fin 16 => deps d c k) ∗ sumPiece tb d c (Fin.ofNat 16 (n - 16)) j)
  | _ => iprop(emp)

/-- The barrier cells' schedule: one round on each, of two unit duties per tile of the SparseCore. -/
def bRd : Rounds.Schedule (GSem nD τ sig) ℕ 𝕄 where
  duties g r := if isBar g ∧ r = 0 then Finset.range 32 else ∅
  amount _ _ _ := 1
  payload g _ n := bPay tb g n
  amount_pos _ _ _ _ := Nat.one_pos

instance bRd_payload_storable (g : GSem nD τ sig) (r n : ℕ) : BI.Storable (upEmb : UEmb _ 𝕄) ((bRd (F := F) tb).payload g r n) := by
  show BI.Storable upEmb (bPay tb g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin 16) : (bRd (F := F) tb).duties (bcell d c j) 0 = Finset.range 32 := by
  simp [bRd, isBar]
theorem bRd_duties_succ (g : GSem nD τ sig) (r : ℕ) (hr : 1 ≤ r) : (bRd (F := F) tb).duties g r = ∅ :=
  if_neg fun h => absurd h.2 (Nat.ne_of_gt hr)
theorem bRd_expect (d : Dev nD) (c : Fin τ.nSC) (j : Fin 16) : (bRd (F := F) tb).expect (bcell d c j) 0 = 32 := by
  unfold Rounds.Schedule.expect; rw [bRd_duties₀]
  show ∑ x ∈ Finset.range 32, 1 = 32
  rw [Finset.sum_const, Finset.card_range]; rfl
theorem pay_first (d : Dev nD) (c : Fin τ.nSC) (j i : Fin 16) : (bRd (F := F) tb).payload (bcell d c j) 0 i.val = deps d c i := by
  show bPay tb (bcell d c j) i.val = _
  unfold bPay; dsimp only
  rw [if_pos i.isLt, Fin.ofNat_val_eq_self]
theorem pay_second (d : Dev nD) (c : Fin τ.nSC) (j i : Fin 16) : (bRd (F := F) tb).payload (bcell d c j) 0 (16 + i.val)
    = iprop((bigSep Finset.univ fun k : Fin 16 => deps d c k) ∗ sumPiece tb d c i j) := by
  show bPay tb (bcell d c j) (16 + i.val) = _
  unfold bPay; dsimp only
  rw [if_neg (by omega), Nat.add_sub_cancel_left, Fin.ofNat_val_eq_self]

/-- What a tile owes for one meeting: a unit on every tile's cell of its SparseCore, at the meeting's stage. -/
def oxS (d : Dev nD) (c : Fin τ.nSC) (b : Fin 2) : CellTallies nD τ sig (HIx 2) := ∑ j : Fin 16, tallyAt (bcell d c j) (some b) 1
/-- What the launch has a tile owe: both meetings. -/
def oxV (d : Dev nD) (c : Fin τ.nSC) : CellTallies nD τ sig (HIx 2) := oxS d c 1 + oxS d c 0

omit [FloatOps F] in
theorem oxS_none (d : Dev nD) (c : Fin τ.nSC) (b : Fin 2) (g : GSem nD τ sig) : oxS d c b g none = 0 := by
  unfold oxS
  rw [Finset.sum_apply, Finsupp.finsetSum_apply]
  exact Finset.sum_eq_zero fun j _ => by rw [tallyAt_apply, if_neg (fun e => nomatch e.2)]

omit [FloatOps F] in
theorem oxS_pos {d : Dev nD} {c : Fin τ.nSC} {b : Fin 2} {g : GSem nD τ sig} {ι : HIx 2} (h : 0 < oxS d c b g ι) : ∃ j : Fin 16, g = bcell d c j ∧ ι = some b := by
  unfold oxS at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

omit [FloatOps F] in
theorem lev_bcell (d : Dev nD) (c : Fin τ.nSC) (j : Fin 16) (b : Fin 2) : (K (F := F)).lev (bcell d c j) (some b) = 8 * b.val + 3 :=
  (K (F := F)).lev_V_reg d c j (show (sc_bar0 : Sem sig) ≠ (K (F := F)).go from sc_bar0_ne_go) b

/-! ## What the launch deals a tile -/

/-- Tile `(c, i)`'s barrier kit: every tile's cell invariant of its SparseCore and that each has reached round 0, its two duty
    tokens in every tile's round, every bank's invariant, its right to take its piece of every row and to deposit its own row, its own position at the origin of round 0, and
    the credit for the sixteen units of each meeting at its own cell. -/
def bkit (d : Dev nD) (c : Fin τ.nSC) (i : Fin 16) : sProp 𝕄 :=
  iprop((∃ κ : GSem nD τ sig → ℕ, bigSep Finset.univ fun j : Fin 16 => cellInv EB (bRd (F := F) tb) (κ (bcell d c j)) (bcell d c j))
    ∗ (bigSep Finset.univ fun j : Fin 16 => reached EB (bcell d c j) 0)
    ∗ (bigSep Finset.univ fun j : Fin 16 => dutyTok EB (bcell d c j) 0 i.val)
    ∗ (bigSep Finset.univ fun j : Fin 16 => dutyTok EB (bcell d c j) 0 (16 + i.val))
    ∗ (∃ ν : GSem nD τ sig → ℕ, bigSep Finset.univ fun k : Fin 16 => inv (ν (dkey d c k)) (bank tb d c k))
    ∗ (bigSep Finset.univ fun k : Fin 16 => tok d c k i)
    ∗ atPos EB (dkey d c i) 0 ∅ 0
    ∗ atPos EB (bcell d c i) 0 ∅ 0
    ∗ cred (tallyAt (bcell d c i) (some 0) 16)
    ∗ cred (tallyAt (bcell d c i) (some 1) 16))

/-! ## What the handshakes carry -/

/-- The four index lists at share `q`. -/
abbrev tabs (d : Dev nD) (q : PosShare TreeShare) : sProp 𝕄 :=
  iprop((hdLoc d ↦{q} (tb d).hd) ∗ (tlLoc d ↦{q} (tb d).tl) ∗ (srLoc d ↦{q} (tb d).sr) ∗ (dsLoc d ↦{q} (tb d).ds))
/-- SparseCore `c`'s share, and tile `(c, i)`'s. -/
abbrev cq (c : Fin 2) : PosShare TreeShare := deal 2 fullShare c
abbrev tq (c : Fin 2) (i : Fin 16) : PosShare TreeShare := deal 16 (cq c) i
/-- SparseCore `c`'s half of the result, and tile `(c, i)`'s part of it. -/
abbrev oHalf (d : Dev nD) (c : Fin 2) (f : Buf (Elt F) (oLoc d)) : sProp 𝕄 := oLoc d ↦[seg 320000 (160000 * c.val) 160000]{fullShare} f
abbrev oPart (d : Dev nD) (c : Fin 2) (i : Fin 16) (f : Buf (Elt F) (oLoc d)) : sProp 𝕄 := oLoc d ↦[seg 320000 (160000 * c.val + 10000 * i.val) 10000]{fullShare} f
/-- Row `i` of the shared scratch, whole. -/
abbrev shRow (d : Dev nD) (c : Fin τ.nSC) (i : Fin 16) (f : Buf (Elt F) (shLoc d c)) : sProp 𝕄 := shLoc d c ↦[seg 327680 (20480 * i.val) 20480]{fullShare} f
/-- What tile `j` ends with of the shared scratch: its piece of every row but the first, and its share of the first. -/
abbrev shEnd (d : Dev nD) (c : Fin τ.nSC) (j : Fin 16) : sProp 𝕄 :=
  iprop((bigSep (Finset.univ.erase (0 : Fin 16)) fun k => piece tb d c k j) ∗ shLoc d c ↦[seg 327680 0 20480]{deal 16 fullShare j} shR tb d c)
/-- The barrier semaphores of the tasks of SparseCore `c` of the grid, at zero. -/
abbrev bars (d : Dev nD) (c : Fin τ.nSC) : sProp 𝕄 := bigSep Finset.univ fun i : Fin 16 => semVal (bcell d c i) 0

variable (m : (ℓ : Loc nD τ sig) → Buf (Elt F) ℓ)

set_option backward.proofsInPublic true in
/-- The one call hands each SparseCore a share of the index lists and its half of the result, and takes them back with the
    result computed and the barrier semaphores at zero; each tile gets a share of the lists, its part of the result and its
    row of the shared scratch, and brings back its part of the result computed, and of the shared scratch what it ends with. -/
def P : (K (F := F)).Pay (N := 2) (nD := nD) (Val := Elt F) (Name := ℕ) (U := UU) where
  st := fun q d c => match q with | 0 => iprop(tabs tb d (cq c) ∗ oHalf d c (m (oLoc d)))
  dn := fun q d c => match q with | 0 => iprop((tabs tb d (cq c) ∗ oHalf d c (oR tb d)) ∗ bars d (coreOf c))
  go := fun q d c i => match q with
    | 0 => iprop(tabs tb d (tq c i) ∗ oPart d c i (m (oLoc d)) ∗ ∃ f, shRow d (coreOf c) i f)
  td := fun q d c i => match q with
    | 0 => iprop((tabs tb d (tq c i) ∗ oPart d c i (oR tb d) ∗ shEnd tb d (coreOf c) i) ∗ semVal (bcell d (coreOf c) i) 0)
  x := fun _ thr => match thr with
    | (d, .scVector c i) => bkit tb d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      unfold oxV at h
      rw [Pi.add_apply, Finsupp.add_apply] at h
      have hb : ∃ b : Fin 2, 0 < oxS d c b g ι := by
        rcases Nat.eq_zero_or_pos (oxS d c 0 g ι) with e | e
        · exact ⟨1, by omega⟩
        · exact ⟨0, e⟩
      obtain ⟨b, hb⟩ := hb
      obtain ⟨j, rfl, rfl⟩ := oxS_pos hb
      rw [lev_bcell]
      have := b.isLt
      exact ⟨show 8 * 0 + 3 ≤ _ by omega, show _ ≤ 8 * 1 + 5 by omega⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) tb m).IsStorable where
  st q d c := match q with
    | 0 => (inferInstance : BI.Storable (upEmb : UEmb _ 𝕄) iprop(tabs tb d (cq c) ∗ oHalf d c (m (oLoc d))))
  dn q d c := match q with
    | 0 => (inferInstance : BI.Storable (upEmb : UEmb _ 𝕄) iprop((tabs tb d (cq c) ∗ oHalf d c (oR tb d)) ∗ bars d (coreOf (F := F) c)))
  go q d c i := match q with
    | 0 => (inferInstance : BI.Storable (upEmb : UEmb _ 𝕄) iprop(tabs tb d (tq c i) ∗ oPart d c i (m (oLoc d)) ∗ ∃ f, shRow d (coreOf (F := F) c) i f))
  td q d c i := match q with
    | 0 => (inferInstance : BI.Storable (upEmb : UEmb _ 𝕄)
      iprop((tabs tb d (tq c i) ∗ oPart d c i (oR tb d) ∗ shEnd tb d (coreOf (F := F) c) i) ∗ semVal (bcell d (coreOf (F := F) c) i) 0))

end Cert.Proof.KI

end
-- ==== Proof.KI.Barrier.lean ====
/- The two meetings of a SparseCore's tiles at the subcore barrier. The cells have one round of thirty-two unit duties; the
   first meeting waits for sixteen units of it, whichever they are — a fast tile's second arrival may be among them, but then
   it tells that every tile has deposited its row —, the second for the rest. -/
module

public import proofs.«01_k».proof.Proof.KI.Setup

@[expose] public section

noncomputable section

namespace Cert.Proof.KI

open Cert.KernelIdeal Cert.KernelIdeal.Gen Cert.Proof.Vals

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

attribute [local instance] blocks

local notation "𝕄" => MT nD τ sig (HIx 2) (Elt F) ℕ UU ℕ

variable (tb : Dev nD → Tabs) (d : Dev nD) (c : Fin τ.nSC)

/-! ## Deposits -/

/-- A tile deposits its row, piece by piece, and may tell so. -/
theorem deposit (k : Fin 16) (ν : ℕ) :
    iprop(inv ν (bank tb d c k) ∗ atPos EB (dkey d c k) 0 ∅ 0 ∗ bigSep Finset.univ fun j : Fin 16 => piece tb d c k j)
      ⊢ (|={Set.univ}=> deps d c k : sProp 𝕄) := by
  iintro ⟨#Hinv, Hat, Hp⟩
  imod (inv_acc (P := bank tb d c k) (Set.mem_univ ν)) $$ Hinv with ⟨Hb, Hclose⟩
  unfold bank
  icases Hb with (Hau | ⟨Hau, -⟩)
  rotate_left
  · iexfalso
    ihave H := (roundAuth_atPos_agree EB) $$ [Hau Hat]
    · isplitl [Hau] <;> iassumption
    icases H with %h
    exact absurd h.1 (by decide)
  imod (roundAuth_atPos_move EB 1 ∅ 0 (Nat.zero_le 1)) $$ [Hau Hat] with ⟨Hau, -⟩
  · isplitl [Hau] <;> iassumption
  imod (roundAuth_witness EB) $$ Hau with ⟨Hau, #Hr⟩
  imod Hclose $$ [Hau Hp] with -
  · iright
    isplitl [Hau]; · iexact Hau
    iapply (SparseCore.ent (bigSep_mono (Φ := fun j : Fin 16 => piece tb d c k j) (Ψ := fun j : Fin 16 => iprop(piece tb d c k j ∨ tok d c k j))
      fun j _ => (or_intro_l : piece (F := F) tb d c k j ⊢ iprop(piece tb d c k j ∨ tok d c k j))))
    iexact Hp
  imodintro
  iexact Hr

/-- A tile takes its piece of a deposited row for its token. -/
theorem take (k j : Fin 16) (ν : ℕ) :
    iprop(inv ν (bank tb d c k) ∗ deps d c k ∗ tok d c k j) ⊢ (|={Set.univ}=> piece tb d c k j : sProp 𝕄) := by
  iintro ⟨#Hinv, #Hr, Ht⟩
  imod (inv_acc (P := bank tb d c k) (Set.mem_univ ν)) $$ Hinv with ⟨Hb, Hclose⟩
  unfold bank
  icases Hb with (Hau | ⟨Hau, Hps⟩)
  · iexfalso
    ihave H := (roundAuth_reached_le EB) $$ [Hau]
    · isplitl [Hau]; · iexact Hau
      iexact Hr
    icases H with %h
    exact absurd h (by decide)
  ihave Hps := (Entails.of_eq (SparseCore.bigSep_erase' (Finset.mem_univ j) (Φ := fun j : Fin 16 => iprop(piece tb d c k j ∨ tok d c k j)))) $$ Hps
  icases Hps with ⟨(Hp | Ht'), Hps⟩
  rotate_left
  · iexfalso
    iapply (dutyTok_dutyTok_false EB)
    isplitl [Ht]; · iexact Ht
    iexact Ht'
  imod Hclose $$ [Hau Hps Ht] with -
  · iright
    isplitl [Hau]; · iexact Hau
    iapply (Entails.of_eq (SparseCore.bigSep_erase' (Finset.mem_univ j) (Φ := fun j : Fin 16 => iprop(piece tb d c k j ∨ tok d c k j))).symm)
    isplitl [Ht]; · iright; iexact Ht
    iexact Hps
  imodintro
  iexact Hp

/-- A tile takes its piece of every row. -/
theorem takes (j : Fin 16) (ν : GSem nD τ sig → ℕ) :
    iprop((bigSep Finset.univ fun k : Fin 16 => inv (ν (dkey d c k)) (bank tb d c k)) ∗ (bigSep Finset.univ fun k : Fin 16 => deps d c k)
        ∗ bigSep Finset.univ fun k : Fin 16 => tok d c k j)
      ⊢ (|={Set.univ}=> bigSep Finset.univ fun k : Fin 16 => piece tb d c k j : sProp 𝕄) := by
  rw [← bigSep_sep', ← bigSep_sep']
  exact (bigSep_mono fun k _ => take tb d c k j (ν (dkey d c k))).trans (bigSep_fupd _ _)

/-! ## Arriving -/

variable {α : Type} {Q : α → sProp (MT nD τ sig (HIx 2) (Elt F) ℕ UU ℕ)}

/-- The arrivals of one meeting: one signal per tile of the SparseCore, each paying one duty of that tile's round. -/
theorem arrive (i : Fin 16) (κ : GSem nD τ sig → ℕ) (me : ℕ) (hme : me < 32) (b : Fin 2) (O : CellTallies nD τ sig (HIx 2)) (W : Waits sig (HIx 2))
    {p : Prog (TpuEff nD τ sig (Elt F) Λ₀ (.scVector c i)) α} (l : List (Fin 16)) (hl : l.Nodup) :
    iprop((bigSep Finset.univ fun j : Fin 16 => cellInv EB (bRd (F := F) tb) (κ (bcell d c j)) (bcell d c j))
        ∗ (bigSep Finset.univ fun j : Fin 16 => reached EB (bcell d c j) 0)
        ∗ owes (V d c i) (O + ∑ j ∈ l.toFinset, tallyAt (bcell d c j) (some b) 1) W
        ∗ (bigSep l.toFinset fun j : Fin 16 => iprop(dutyTok EB (bcell d c j) 0 me ∗ (bRd (F := F) tb).payload (bcell d c j) 0 me))
        ∗ (owes (V d c i) O W -∗ wp frame (wpE (defs₀ (F := F)) 𝒱₀ (V d c i) none) Set.univ p Q))
      ⊢ wp frame (wpE (defs₀ (F := F)) 𝒱₀ (V d c i) none) Set.univ
          (l.foldr (fun j r => .op (TpuEff.semSignal (d, .scVector c j) sc_bar0 1) fun _ => r) p) Q := by
  induction l with
  | nil =>
    rw [List.toFinset_nil, List.foldr_nil, Finset.sum_empty, add_zero]
    iintro ⟨-, -, HO, -, Hk⟩; iapply Hk; iexact HO
  | cons j l ih =>
    rw [List.toFinset_cons, List.foldr_cons]
    have hj : j ∉ l.toFinset := fun h => (List.nodup_cons.mp hl).1 (List.mem_toFinset.mp h)
    rw [SparseCore.bigSep_insert' hj, Finset.sum_insert hj]
    iintro ⟨#Hinv, #Hr, HO, ⟨⟨Htok, Hpay⟩, Htoks⟩, Hk⟩
    iapply (Rounds.wp_signal 𝒱₀ EB (bRd (F := F) tb) (V d c i) none (dst := V d c j) (sem := sc_bar0) (r := 0) (d := me) (k' := 1)
        (κ := κ (bcell d c j)) (by rw [bRd_duties₀]; exact Finset.mem_range.mpr hme) rfl (some b)
        (O₀ := O + (tallyAt (bcell d c j) (some b) 1 + ∑ j ∈ l.toFinset, tallyAt (bcell d c j) (some b) 1))
        (O + ∑ j ∈ l.toFinset, tallyAt (bcell d c j) (some b) 1)
        (by rw [add_comm (tallyAt _ _ _) _, ← add_assoc]) (W := W)) $$ [HO Htok Hpay]
    · isplitr; · iapply (SparseCore.ent (BI.bigSep_elim (Φ := fun j : Fin 16 => (cellInv EB (bRd (F := F) tb) (κ (bcell d c j)) (bcell d c j) : sProp 𝕄)) (Finset.mem_univ j))) $$ Hinv
      isplitl [HO]; · iexact HO
      isplitl [Htok]; · iexact Htok
      isplitl [Hpay]; · iexact Hpay
      iapply (SparseCore.ent (BI.bigSep_elim (Φ := fun j : Fin 16 => (reached EB (bcell d c j) 0 : sProp 𝕄)) (Finset.mem_univ j))) $$ Hr
    iintro HO
    iapply (ih (List.nodup_cons.mp hl).2)
    isplitr; · iexact Hinv
    isplitr; · iexact Hr
    isplitl [HO]; · iexact HO
    isplitl [Htoks] <;> iassumption

/-! ## The first meeting -/

/-- Sixteen of the thirty-two duties tell, together, that every tile has deposited its row. -/
theorem deps_of (i : Fin 16) (S : Finset ℕ) (hS : S ⊆ Finset.range 32) (hc : 16 + (Finset.range 32 \ S).card ≤ 32) :
    (bigSep S fun n => (bRd (F := F) tb).payload (bcell d c i) 0 n) ⊢ (bigSep Finset.univ fun k : Fin 16 => deps d c k : sProp 𝕄) := by
  by_cases h : ∃ n ∈ S, 16 ≤ n
  · obtain ⟨n, hn, h16⟩ := h
    have h32 := Finset.mem_range.mp (hS hn)
    refine (bigSep_elim hn).trans ?_
    obtain ⟨k, rfl⟩ : ∃ k : Fin 16, n = 16 + k.val := ⟨⟨n - 16, by omega⟩, by simp only; omega⟩
    rw [pay_second]
    exact (sep_elim_left : iprop((bigSep Finset.univ fun k : Fin 16 => deps (F := F) d c k) ∗ sumPiece tb d c k i) ⊢ bigSep Finset.univ fun k : Fin 16 => deps (F := F) d c k)
  · have hsub : S ⊆ Finset.range 16 := fun n hn => Finset.mem_range.mpr (by by_contra hh; exact h ⟨n, hn, by omega⟩)
    have hcard : 16 ≤ S.card := by
      have := Finset.card_sdiff_add_card_eq_card hS
      rw [Finset.card_range] at this; omega
    have : S = Finset.range 16 := Finset.eq_of_subset_of_card_le hsub (by rw [Finset.card_range]; exact hcard)
    subst this
    rw [show Finset.range 16 = (Finset.univ : Finset (Fin 16)).image Fin.val by decide,
      SparseCore.bigSep_image_of_injOn (fun a _ b _ e => Fin.ext e)]
    exact bigSep_mono fun k _ => by rw [pay_first]; exact BI.Entails.refl _

/-- The first meeting: a tile that has deposited its row arrives and waits for sixteen units of its round; after it, every
    tile has deposited. -/
theorem meet_first (i : Fin 16) (κ : GSem nD τ sig → ℕ) (O : CellTallies nD τ sig (HIx 2)) (W : Waits sig (HIx 2))
    {k : PUnit → Prog (TpuEff nD τ sig (Elt F) Λ₀ (.scVector c i)) α} :
    iprop((bigSep Finset.univ fun j : Fin 16 => cellInv EB (bRd (F := F) tb) (κ (bcell d c j)) (bcell d c j))
        ∗ (bigSep Finset.univ fun j : Fin 16 => reached EB (bcell d c j) 0)
        ∗ owes (V d c i) (O + oxS d c 0) W
        ∗ (bigSep Finset.univ fun j : Fin 16 => dutyTok EB (bcell d c j) 0 i.val)
        ∗ deps d c i
        ∗ cred (tallyAt (bcell d c i) (some 0) 16) ∗ atPos EB (bcell d c i) 0 ∅ 0 ∗ MayWait (V d c i) (.reg sc_bar0) (some 0) O)
      ⊢ iprop((∀ S : Finset ℕ, (⌜S ⊆ Finset.range 32⌝ ∗ owes (V d c i) O (insert (SemLoc.reg sc_bar0, some 0) W)
            ∗ atPos EB (bcell d c i) 0 S 16
            ∗ (bigSep Finset.univ fun k : Fin 16 => deps d c k)
            ∗ bigSep S fun n => (bRd (F := F) tb).payload (bcell d c i) 0 n)
          -∗ wp frame (wpE (defs₀ (F := F)) 𝒱₀ (V d c i) none) Set.univ (k ⟨⟩) Q)
        -∗ wp frame (wpE (defs₀ (F := F)) 𝒱₀ (V d c i) none) Set.univ (SparseCore.subcoreBarrier sc_bar0 (grid0.bound 1) hsub0 >>= k) Q) := by
  rw [SparseCore.subcoreBarrier_bind,
    show (wp frame (wpE (defs₀ (F := F)) 𝒱₀ (V d c i) none) Set.univ (.op .deviceId _) Q : sProp 𝕄) = _ from wp_deviceId 𝒱₀ (V d c i) none Set.univ]
  iintro ⟨#Hinv, #Hr, HO, Htoks, #Hdep, Hcred, Hat, Hmw⟩ Hk
  have harr := arrive (Q := Q) tb d c i κ i.val (by omega) 0 O W (p := .op (TpuEff.semWait sc_bar0 16) k) (List.finRange 16) (List.nodup_finRange 16)
  rw [List.toFinset_finRange] at harr
  iapply harr
  isplitr; · iexact Hinv
  isplitr; · iexact Hr
  isplitl [HO]; · iexact HO
  isplitl [Htoks]
  · rw [bigSep_sep']
    isplitl [Htoks]; · iexact Htoks
    rw [bigSep_congr fun j _ => pay_first (F := F) tb d c j i]
    iapply (SparseCore.ent (bigSep_of_persistent Finset.univ (deps (F := F) d c i)))
    iexact Hdep
  iintro HO
  iapply (Rounds.wp_wait 𝒱₀ EB (bRd (F := F) tb) (V d c i) none (sm := .reg sc_bar0) (k' := 16) (κ := κ (bcell d c i))
      (wpE_semWait_eq 𝒱₀ (V d c i) none Set.univ) (Set.mem_univ _) (cr := Finsupp.single (some 0) 16) {(SemLoc.reg sc_bar0, some 0)}
      (O := O) (W := W) (R := 0) (m := 0) (T := ∅) (by rw [Util.total_single]) (image_single_subset _ _ _)) $$ [Hcred HO Hmw Hat]
  · isplitr; · iapply (SparseCore.ent (BI.bigSep_elim (Φ := fun j : Fin 16 => (cellInv EB (bRd (F := F) tb) (κ (bcell d c j)) (bcell d c j) : sProp 𝕄)) (Finset.mem_univ i))) $$ Hinv
    isplitl [Hcred]; · iexact Hcred
    isplitl [HO]; · iexact HO
    isplitl [Hmw]; · iexact Hmw
    iexact Hat
  iintro %S ⟨%hS, HO, Hat, Hpay⟩
  rw [bRd_duties₀, bRd_expect] at hS
  obtain ⟨-, hS, hc⟩ := hS
  rw [Finset.sdiff_empty, Nat.zero_add]
  ihave H := (SparseCore.ent (persistent_entails_right (deps_of (F := F) tb d c i S hS (by omega)))) $$ Hpay
  icases H with ⟨Hdeps, Hpay⟩
  iapply Hk $$ %S
  isplitr; · ipureintro; exact hS
  isplitl [HO]; · rw [Finset.insert_eq, Finset.union_comm]; iexact HO
  isplitl [Hat]; · iexact Hat
  isplitl [Hdeps] <;> iassumption

/-! ## The second meeting -/

/-- All the duties' payloads hand over the tile's share of every piece of the summed table. -/
theorem sums_of (i : Fin 16) (S : Finset ℕ) (hS : S ⊆ Finset.range 32) :
    iprop((bigSep S fun n => (bRd (F := F) tb).payload (bcell d c i) 0 n) ∗ bigSep (Finset.range 32 \ S) fun n => (bRd (F := F) tb).payload (bcell d c i) 0 n)
      ⊢ (bigSep Finset.univ fun k : Fin 16 => sumPiece tb d c k i : sProp 𝕄) := by
  have h32 : Finset.range 32 = (Finset.univ : Finset (Fin 16)).image (fun k : Fin 16 => 16 + k.val) ∪ Finset.range 16 := by decide
  have hd : Disjoint ((Finset.univ : Finset (Fin 16)).image (fun k : Fin 16 => 16 + k.val)) (Finset.range 16) := by decide
  have hu : (bigSep (Finset.range 32) fun n => (bRd (F := F) tb).payload (bcell d c i) 0 n)
      = iprop((bigSep S fun n => (bRd (F := F) tb).payload (bcell d c i) 0 n) ∗ bigSep (Finset.range 32 \ S) fun n => (bRd (F := F) tb).payload (bcell d c i) 0 n) := by
    conv_lhs => rw [← Finset.union_sdiff_of_subset hS]
    exact bigSep_union (Finset.disjoint_sdiff)
  rw [← hu, h32]
  refine (Entails.of_eq (bigSep_union hd)).trans (sep_elim_left.trans ?_)
  rw [SparseCore.bigSep_image_of_injOn (fun a _ b _ e => Fin.ext (Nat.add_left_cancel e))]
  exact bigSep_mono fun k _ => by rw [pay_second]; exact (sep_elim_right : iprop((bigSep Finset.univ fun k : Fin 16 => deps (F := F) d c k) ∗ sumPiece tb d c k i) ⊢ sumPiece tb d c k i)

/-- The second meeting: a tile hands every tile a share of its piece of the summed table, and leaves with its share of every
    piece and its barrier semaphore, closed, at zero. -/
theorem meet_second (i : Fin 16) (κ : GSem nD τ sig → ℕ) (S : Finset ℕ) (hS : S ⊆ Finset.range 32) (O : CellTallies nD τ sig (HIx 2)) (W : Waits sig (HIx 2))
    {k : PUnit → Prog (TpuEff nD τ sig (Elt F) Λ₀ (.scVector c i)) α} :
    iprop((bigSep Finset.univ fun j : Fin 16 => cellInv EB (bRd (F := F) tb) (κ (bcell d c j)) (bcell d c j))
        ∗ (bigSep Finset.univ fun j : Fin 16 => reached EB (bcell d c j) 0)
        ∗ owes (V d c i) (O + oxS d c 1) W
        ∗ (bigSep Finset.univ fun j : Fin 16 => dutyTok EB (bcell d c j) 0 (16 + i.val))
        ∗ (bigSep Finset.univ fun k : Fin 16 => deps d c k)
        ∗ (shLoc d c ↦[seg 327680 (1280 * i.val) 1280]{fullShare} shR tb d c)
        ∗ cred (tallyAt (bcell d c i) (some 1) 16) ∗ atPos EB (bcell d c i) 0 S 16
        ∗ (bigSep S fun n => (bRd (F := F) tb).payload (bcell d c i) 0 n)
        ∗ MayWait (V d c i) (.reg sc_bar0) (some 1) O)
      ⊢ iprop(((owes (V d c i) O (insert (SemLoc.reg sc_bar0, some 1) W)
            ∗ semVal (bcell d c i) 0
            ∗ bigSep Finset.univ fun k : Fin 16 => sumPiece tb d c k i)
          -∗ wp frame (wpE (defs₀ (F := F)) 𝒱₀ (V d c i) none) Set.univ (k ⟨⟩) Q)
        -∗ wp frame (wpE (defs₀ (F := F)) 𝒱₀ (V d c i) none) Set.univ (SparseCore.subcoreBarrier sc_bar0 (grid0.bound 1) hsub0 >>= k) Q) := by
  rw [SparseCore.subcoreBarrier_bind,
    show (wp frame (wpE (defs₀ (F := F)) 𝒱₀ (V d c i) none) Set.univ (.op .deviceId _) Q : sProp 𝕄) = _ from wp_deviceId 𝒱₀ (V d c i) none Set.univ]
  iintro ⟨#Hinv, #Hr, HO, Htoks, #Hdeps, Hsh, Hcred, Hat, HpayS, Hmw⟩ Hk
  have harr := arrive (Q := Q) tb d c i κ (16 + i.val) (by omega) 1 O W (p := .op (TpuEff.semWait sc_bar0 16) k) (List.finRange 16) (List.nodup_finRange 16)
  rw [List.toFinset_finRange] at harr
  iapply harr
  isplitr; · iexact Hinv
  isplitr; · iexact Hr
  isplitl [HO]; · iexact HO
  isplitl [Htoks Hsh]
  · rw [bigSep_sep']
    isplitl [Htoks]; · iexact Htoks
    rw [bigSep_congr fun j _ => pay_second (F := F) tb d c j i, bigSep_sep']
    isplitr
    · iapply (SparseCore.ent (bigSep_of_persistent Finset.univ (bigSep Finset.univ fun k : Fin 16 => deps (F := F) d c k)))
      iexact Hdeps
    iapply (Entails.of_eq (pts_deal (ℓ := shLoc d c) 15 fullShare _ _))
    iexact Hsh
  iintro HO
  iapply (Rounds.wp_wait_rest_token 𝒱₀ EB (bRd (F := F) tb) (V d c i) none (sm := .reg sc_bar0) (k' := 16) (κ := κ (bcell d c i))
      (wpE_semWait_eq 𝒱₀ (V d c i) none Set.univ) (Set.mem_univ _) (some 1)
      (O := O) (W := W) (R := 0) (m := 16) (T := S) (bRd_expect tb d c i).symm) $$ [Hcred HO Hmw Hat]
  · isplitr; · iapply (SparseCore.ent (BI.bigSep_elim (Φ := fun j : Fin 16 => (cellInv EB (bRd (F := F) tb) (κ (bcell d c j)) (bcell d c j) : sProp 𝕄)) (Finset.mem_univ i))) $$ Hinv
    isplitl [Hcred]; · iexact Hcred
    isplitl [HO]; · iexact HO
    isplitl [Hmw]; · iexact Hmw
    iexact Hat
  iintro ⟨HO, Hat, -, Hpay⟩
  imod (Rounds.cell_close EB (bRd (F := F) tb) (g := bcell d c i) (Set.mem_univ (κ _)) (fun h => h) (bRd_duties_succ tb _)) $$ [Hat] with Hbar
  · isplitr; · iapply (SparseCore.ent (BI.bigSep_elim (Φ := fun j : Fin 16 => (cellInv EB (bRd (F := F) tb) (κ (bcell d c j)) (bcell d c j) : sProp 𝕄)) (Finset.mem_univ i))) $$ Hinv
    iexact Hat
  rw [bRd_duties₀]
  iapply Hk
  isplitl [HO]; · iexact HO
  isplitl [Hbar]; · iexact Hbar
  iapply (sums_of (F := F) tb d c i S hS)
  isplitl [HpayS] <;> iassumption

end Cert.Proof.KI

end
-- ==== Proof.KI.Loops.lean ====
/- The tile's counted loops, each with what it leaves in its buffer. -/
module

public import proofs.«01_k».proof.Proof.KI.Barrier
public import Idealize.ShloMosaic.Lib.WritesUnit

@[expose] public section

noncomputable section

namespace Cert.Proof.KI

open Cert.KernelIdeal Cert.KernelIdeal.Gen Cert.Proof.Vals

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

attribute [local instance] blocks

local notation "𝕄" => MT nD τ sig (HIx 2) (Elt F) ℕ UU ℕ

/-! ## The task's memrefs -/

abbrev hdV : Memref sig .scVector .hbm S320000 .i32 := Memref.whole main_v1_scv
abbrev tlV : Memref sig .scVector .hbm S320000 .i32 := Memref.whole main_v3_scv
abbrev srV : Memref sig .scVector .hbm S320000 .i32 := Memref.whole main_v5_scv
abbrev dsV : Memref sig .scVector .hbm S320000 .i32 := Memref.whole main_v7_scv
abbrev oV : Memref sig .scVector .hbm S320000 .f32 := Memref.whole main_v8_scv
abbrev hV : Memref sig .scVector .vmem S20480 .f32 := Memref.whole cc0_scratch0
abbrev iV : Memref sig .scVector .vmem S20000 .i32 := Memref.whole cc0_scratch1
abbrev tV : Memref sig .scVector .vmem S10000 .i32 := Memref.whole cc0_scratch2
abbrev eV : Memref sig .scVector .vmem S10000 .i32 := Memref.whole cc0_scratch3
abbrev bV : Memref sig .scVector .vmem S10000 .f32 := Memref.whole cc0_scratch4
abbrev sV : Memref sig .scVector .vmem S1280 .f32 := Memref.whole cc0_scratch5
abbrev aV : Memref sig .scVector .vmem S1280 .f32 := Memref.whole cc0_scratch6
abbrev shV : Memref sig .scVector .shared S327680 .f32 := Memref.whole cc0_scratch7

/-- The tile at a coordinate of the grid. -/
abbrev cV (L : grid0.Coords) : Fin τ.nSC := (L 0).castLE hcore0
abbrev jV (L : grid0.Coords) : Fin τ.nSub := (L 1).castLE hsub0

/-! ## Reading and storing sixteen positions of a list -/

section Lists
variable {sig : RefSig} {κ : Kind} {sp : Space} {n len : ℕ} {e : EltTy} {Val : EltTy → Type} (v : View sig κ sp (L1 n) e) (f : v.ty.Contents Val)
  {off : Fin 1 → ℕ} (inb : ∀ a, off a + (L1 len).size a ≤ (L1 n).size a) (o : ℕ) (ho : off = ![o])
include ho

/-- After a store of a run of positions, one of them reads the payload. -/
theorem st_hit (w : (L1 len).Idx → Val e) (y : (L1 n).Idx) (x : (L1 len).Idx) (h : (y 0).val = o + (x 0).val) :
    v.read Val (v.writes Val f [(⟨Rect.unit (s := L1 n) off (L1 len).size inb, w⟩ : View.Piece Val (L1 n) e)]) y = w x :=
  View.read_writes_cons_unit_of_mem v f inb w [] y x ho fun a => match a with | ⟨0, _⟩ => h

/-- After a store of a run of positions, another reads what it did before. -/
theorem st_miss (w : (L1 len).Idx → Val e) (y : (L1 n).Idx) (h : (y 0).val < o ∨ o + len ≤ (y 0).val) :
    v.read Val (v.writes Val f [(⟨Rect.unit (s := L1 n) off (L1 len).size inb, w⟩ : View.Piece Val (L1 n) e)]) y = v.read Val f y :=
  View.read_writes_cons_unit_of_not_mem v f inb w [] y ho 0 h

/-- A load of a run of positions reads the list there. -/
theorem ld_at (x : (L1 len).Idx) (y : (L1 n).Idx) (h : (y 0).val = o + (x 0).val) :
    v.readAt Val (Rect.unit (s := L1 n) off (L1 len).size inb).toLoadRect f x = v.read Val f y := by
  rw [View.readAt_apply]
  congr 1
  subst ho
  apply idx_ext
  rw [h]
  show o + 1 * (x 0).val = _
  omega

end Lists

section
variable [FloatOps F] (tb : Dev nD → Tabs) (d : Dev nD) (L : grid0.Coords)
variable {α : Type} {Q : α → sProp (MT nD τ sig (HIx 2) (Elt F) ℕ UU ℕ)}

abbrev thrV : Thread nD τ := V d (cV L) (jV L)

/-! ## The loops' bodies over the task's own memrefs and semaphores, and the task's own buffers -/

abbrev t1B := k0_t1_body (F := F) L hdV (Memref.isWhole_whole _) tlV (Memref.isWhole_whole _) srV (Memref.isWhole_whole _) dsV (Memref.isWhole_whole _) oV (Memref.isWhole_whole _) hV (Memref.isWhole_whole _) iV (Memref.isWhole_whole _) tV (Memref.isWhole_whole _) eV (Memref.isWhole_whole _) bV (Memref.isWhole_whole _) sV (Memref.isWhole_whole _) aV (Memref.isWhole_whole _) shV (Memref.isWhole_whole _) cc0_scoped0 cc0_scoped1 cc0_scoped2 cc0_scoped3 cc0_scoped4 cc0_scoped5 cc0_scoped6 cc0_scoped7 cc0_scoped8
abbrev t2B := k0_t2_body (F := F) L hdV (Memref.isWhole_whole _) tlV (Memref.isWhole_whole _) srV (Memref.isWhole_whole _) dsV (Memref.isWhole_whole _) oV (Memref.isWhole_whole _) hV (Memref.isWhole_whole _) iV (Memref.isWhole_whole _) tV (Memref.isWhole_whole _) eV (Memref.isWhole_whole _) bV (Memref.isWhole_whole _) sV (Memref.isWhole_whole _) aV (Memref.isWhole_whole _) shV (Memref.isWhole_whole _) cc0_scoped0 cc0_scoped1 cc0_scoped2 cc0_scoped3 cc0_scoped4 cc0_scoped5 cc0_scoped6 cc0_scoped7 cc0_scoped8
abbrev t3B := k0_t3_body (F := F) L hdV (Memref.isWhole_whole _) tlV (Memref.isWhole_whole _) srV (Memref.isWhole_whole _) dsV (Memref.isWhole_whole _) oV (Memref.isWhole_whole _) hV (Memref.isWhole_whole _) iV (Memref.isWhole_whole _) tV (Memref.isWhole_whole _) eV (Memref.isWhole_whole _) bV (Memref.isWhole_whole _) sV (Memref.isWhole_whole _) aV (Memref.isWhole_whole _) shV (Memref.isWhole_whole _) cc0_scoped0 cc0_scoped1 cc0_scoped2 cc0_scoped3 cc0_scoped4 cc0_scoped5 cc0_scoped6 cc0_scoped7 cc0_scoped8
abbrev t4B := k0_t4_body (F := F) L hdV (Memref.isWhole_whole _) tlV (Memref.isWhole_whole _) srV (Memref.isWhole_whole _) dsV (Memref.isWhole_whole _) oV (Memref.isWhole_whole _) hV (Memref.isWhole_whole _) iV (Memref.isWhole_whole _) tV (Memref.isWhole_whole _) eV (Memref.isWhole_whole _) bV (Memref.isWhole_whole _) sV (Memref.isWhole_whole _) aV (Memref.isWhole_whole _) shV (Memref.isWhole_whole _) cc0_scoped0 cc0_scoped1 cc0_scoped2 cc0_scoped3 cc0_scoped4 cc0_scoped5 cc0_scoped6 cc0_scoped7 cc0_scoped8
abbrev t5B := k0_t5_body (F := F) L hdV (Memref.isWhole_whole _) tlV (Memref.isWhole_whole _) srV (Memref.isWhole_whole _) dsV (Memref.isWhole_whole _) oV (Memref.isWhole_whole _) hV (Memref.isWhole_whole _) iV (Memref.isWhole_whole _) tV (Memref.isWhole_whole _) eV (Memref.isWhole_whole _) bV (Memref.isWhole_whole _) sV (Memref.isWhole_whole _) aV (Memref.isWhole_whole _) shV (Memref.isWhole_whole _) cc0_scoped0 cc0_scoped1 cc0_scoped2 cc0_scoped3 cc0_scoped4 cc0_scoped5 cc0_scoped6 cc0_scoped7 cc0_scoped8
abbrev t6B := k0_t6_body (F := F) L hdV (Memref.isWhole_whole _) tlV (Memref.isWhole_whole _) srV (Memref.isWhole_whole _) dsV (Memref.isWhole_whole _) oV (Memref.isWhole_whole _) hV (Memref.isWhole_whole _) iV (Memref.isWhole_whole _) tV (Memref.isWhole_whole _) eV (Memref.isWhole_whole _) bV (Memref.isWhole_whole _) sV (Memref.isWhole_whole _) aV (Memref.isWhole_whole _) shV (Memref.isWhole_whole _) cc0_scoped0 cc0_scoped1 cc0_scoped2 cc0_scoped3 cc0_scoped4 cc0_scoped5 cc0_scoped6 cc0_scoped7 cc0_scoped8
abbrev t7B := k0_t7_body (F := F) L hdV (Memref.isWhole_whole _) tlV (Memref.isWhole_whole _) srV (Memref.isWhole_whole _) dsV (Memref.isWhole_whole _) oV (Memref.isWhole_whole _) hV (Memref.isWhole_whole _) iV (Memref.isWhole_whole _) tV (Memref.isWhole_whole _) eV (Memref.isWhole_whole _) bV (Memref.isWhole_whole _) sV (Memref.isWhole_whole _) aV (Memref.isWhole_whole _) shV (Memref.isWhole_whole _) cc0_scoped0 cc0_scoped1 cc0_scoped2 cc0_scoped3 cc0_scoped4 cc0_scoped5 cc0_scoped6 cc0_scoped7 cc0_scoped8

abbrev hPts (f : (L1 20480).Idx → F .f32) : sProp 𝕄 := (hV).view.loc (thrV d L) ↦{fullShare} f
abbrev iPts (f : (L1 20000).Idx → BitVec 32) : sProp 𝕄 := (iV).view.loc (thrV d L) ↦{fullShare} f
abbrev tPts (f : (L1 10000).Idx → BitVec 32) : sProp 𝕄 := (tV).view.loc (thrV d L) ↦{fullShare} f
abbrev ePts (f : (L1 10000).Idx → BitVec 32) : sProp 𝕄 := (eV).view.loc (thrV d L) ↦{fullShare} f
abbrev bPts (f : (L1 10000).Idx → F .f32) : sProp 𝕄 := (bV).view.loc (thrV d L) ↦{fullShare} f
abbrev sPts (f : (L1 1280).Idx → F .f32) : sProp 𝕄 := (sV).view.loc (thrV d L) ↦{fullShare} f
abbrev aPts (f : (L1 1280).Idx → F .f32) : sProp 𝕄 := (aV).view.loc (thrV d L) ↦{fullShare} f

/-! ## Zeroing -/

/-- After `t` trips the first `16 t` bins are zero. -/
def inv1 (t : ℕ) : sProp 𝕄 := iprop(∃ g : (L1 20480).Idx → F .f32, ⌜∀ j, (j 0).val < 16 * t → g j = zeroF⌝ ∗ hPts d L g)

/-- The tile zeroes its count table. -/
theorem loop1 (f : (L1 20480).Idx → F .f32) {k : BitVec 32 → Prog (TpuEff nD τ sig (Elt F) Λ₀ (.scVector (cV L) (jV L))) α} :
    (hPts d L f : sProp 𝕄) ⊢ iprop((∀ acc, hPts d L (fun j => tally (F := F) (fun _ => 0) 0 (j 0).val) -∗ wp frame (wpE (defs₀ (F := F)) 𝒱₀ (thrV d L) none) Set.univ (k acc) Q)
      -∗ wp frame (wpE (defs₀ (F := F)) 𝒱₀ (thrV d L) none) Set.univ (Scf.Loop.for k0_t1_loop k0_t1_ok 0#32 (t1B L) >>= k) Q) := by
  iintro H HK
  sl_for (fun t (_ : BitVec 32) => inv1 (F := F) d L t) $$ [H]
  case region =>
    intro t acc
    unfold inv1
    iintro ⟨%g, %hg, H⟩
    sl_exec
    sl_step
    iexists _; isplitr; swap; · iexact H
    ipureintro; intro j hj
    by_cases h : (j 0).val < 16 * t.val
    · exact (st_miss (Val := Elt F) hV.view g _ _ (k0_off1_eq t) _ j (.inl h)).trans (hg j h)
    · exact st_hit (Val := Elt F) hV.view g _ _ (k0_off1_eq t) _ j (ix (n := 16) ((j 0).val - 16 * t.val) (by omega)) (by show (j 0).val = 16 * t.val + ((j 0).val - 16 * t.val); omega)
  · unfold inv1; iexists f; isplitr; · ipureintro; intro j hj; omega
    iexact H
  iintro %acc HI
  unfold inv1
  icases HI with ⟨%g, %hg, H⟩
  obtain rfl : g = fun j => tally (F := F) (fun _ => 0) 0 (j 0).val := funext fun j => hg j (by
    have : (j 0).val < 20480 := (j 0).isLt
    have : Scf.trips k0_t1_loop.lb k0_t1_loop.ub k0_t1_loop.st = 1280 := by decide +kernel
    omega)
  ispecialize HK $$ %acc H
  iexact HK

/-- After `t` trips the first `16 t` sums are zero. -/
def inv4 (t : ℕ) : sProp 𝕄 := iprop(∃ g : (L1 1280).Idx → F .f32, ⌜∀ j, (j 0).val < 16 * t → g j = zeroF⌝ ∗ aPts d L g)

/-- The tile zeroes its sums. -/
theorem loop4 (f : (L1 1280).Idx → F .f32) {k : BitVec 32 → Prog (TpuEff nD τ sig (Elt F) Λ₀ (.scVector (cV L) (jV L))) α} :
    (aPts d L f : sProp 𝕄) ⊢ iprop((∀ acc, aPts d L (fun _ => zeroF) -∗ wp frame (wpE (defs₀ (F := F)) 𝒱₀ (thrV d L) none) Set.univ (k acc) Q)
      -∗ wp frame (wpE (defs₀ (F := F)) 𝒱₀ (thrV d L) none) Set.univ (Scf.Loop.for k0_t4_loop k0_t4_ok 0#32 (t4B L) >>= k) Q) := by
  iintro H HK
  sl_for (fun t (_ : BitVec 32) => inv4 (F := F) d L t) $$ [H]
  case region =>
    intro t acc
    unfold inv4
    iintro ⟨%g, %hg, H⟩
    sl_exec
    sl_step
    iexists _; isplitr; swap; · iexact H
    ipureintro; intro j hj
    by_cases h : (j 0).val < 16 * t.val
    · exact (st_miss (Val := Elt F) aV.view g _ _ (k0_off6_eq t) _ j (.inl h)).trans (hg j h)
    · exact st_hit (Val := Elt F) aV.view g _ _ (k0_off6_eq t) _ j (ix (n := 16) ((j 0).val - 16 * t.val) (by omega)) (by show (j 0).val = 16 * t.val + ((j 0).val - 16 * t.val); omega)
  · unfold inv4; iexists f; isplitr; · ipureintro; intro j hj; omega
    iexact H
  iintro %acc HI
  unfold inv4
  icases HI with ⟨%g, %hg, H⟩
  obtain rfl : g = fun _ => zeroF := funext fun j => hg j (by
    have : (j 0).val < 1280 := (j 0).isLt
    have : Scf.trips k0_t4_loop.lb k0_t4_loop.ub k0_t4_loop.st = 80 := by decide +kernel
    omega)
  ispecialize HK $$ %acc H
  iexact HK

/-! ## Counting -/

omit [FloatOps F] in
/-- The count table as an indexed read addresses it is the count table. -/
theorem pts_hU (f : (L1 20480).Idx → F .f32) :
    ((hV.access (.whole S20480)).loc (thrV d L) ↦[Finset.univ]{fullShare} f : sProp 𝕄) = hPts d L f := rfl

omit [FloatOps F] in
theorem set_hW : (hV.access (.whole S20480)).set = Finset.univ := by
  exact Memref.set_access_whole (cc0_scratch0 : Ref sig .scVector)
omit [FloatOps F] in
/-- The count table as an indexed access addresses it is the count table. -/
theorem pts_hW (f : (L1 20480).Idx → F .f32) :
    ((hV.access (.whole S20480)).loc (thrV d L) ↦[(hV.access (.whole S20480)).set]{fullShare} f : sProp 𝕄) = hPts d L f := by
  rw [set_hW]

/-- One indexed store with add of sixteen ones takes the table sixteen entries on. -/
theorem store_ones (w : ℕ → ℕ) (n : ℕ) (v : IVec S16 32) (hv : ∀ x : (L1 16).Idx, (v x).toNat = w (n + (x 0).val))
    (h : ∀ a x, ((![v] : Fin 1 → IVec S16 32) a x).toNat < S20480.size a) :
    (hV.access (.whole S20480)).write (Elt F) (fun (j : (L1 20480).Idx) => (tally w n (j 0).val : F .f32))
      (storeIdx (F := F) (e := .f32) ((hV.access (.whole S20480)).read (Elt F) (fun (j : (L1 20480).Idx) => (tally w n (j 0).val : F .f32))) ![v] (k0_pay5 (F := F)) (fun _ => 1#1) true h) Finset.univ
      = fun (j : (L1 20480).Idx) => (tally w (n + 16) (j 0).val : F .f32) := by
  refine (Memref.write_access_whole_univ (Elt F) (cc0_scratch0 : Ref sig .scVector) _ _).trans ?_
  have e : (hV.access (.whole S20480)).read (Elt F) (fun (j : (L1 20480).Idx) => (tally w n (j 0).val : F .f32)) = fun (j : (L1 20480).Idx) => (tally w n (j 0).val : F .f32) :=
    Memref.read_access_whole (Elt F) (cc0_scratch0 : Ref sig .scVector) _
  rw [e]
  exact funext (storeIdx_tally w n (fun j => tally w n (j 0).val) (fun _ => rfl) v hv _ (fun _ => rfl) h)

/-- After `t` trips the table counts the first `16 t` more entries of the sequence of bins. -/
def inv2 (w : ℕ → ℕ) (n₀ : ℕ) (fi : (L1 20000).Idx → BitVec 32) (t : ℕ) : sProp 𝕄 :=
  iprop(hPts d L (fun j => tally w (n₀ + 16 * t) (j 0).val) ∗ iPts d L fi)

/-- The tile counts the destinations it was handed. -/
theorem loop2 (w : ℕ → ℕ) (n₀ : ℕ) (fi : (L1 20000).Idx → BitVec 32) (hfi : ∀ j, (fi j).toNat = w (n₀ + (j 0).val)) (hw : ∀ q, w q < 20480)
    {k : BitVec 32 → Prog (TpuEff nD τ sig (Elt F) Λ₀ (.scVector (cV L) (jV L))) α} :
    iprop(hPts d L (fun j => tally w n₀ (j 0).val) ∗ iPts d L fi : sProp 𝕄)
      ⊢ iprop((∀ acc, (hPts d L (fun j => tally w (n₀ + 20000) (j 0).val) ∗ iPts d L fi) -∗ wp frame (wpE (defs₀ (F := F)) 𝒱₀ (thrV d L) none) Set.univ (k acc) Q)
      -∗ wp frame (wpE (defs₀ (F := F)) 𝒱₀ (thrV d L) none) Set.univ (Scf.Loop.for k0_t2_loop k0_t2_ok 0#32 (t2B L) >>= k) Q) := by
  iintro ⟨H, HI⟩ HK
  sl_for (fun t (_ : BitVec 32) => inv2 (F := F) d L w n₀ fi t) $$ [H HI]
  case region =>
    intro t acc
    unfold inv2
    iintro ⟨H, HI⟩
    have hv : ∀ x : (L1 16).Idx, ((iV.view.readAt (Elt F) (Rect.unit (s := S20000) (k0_off3 t) S16.size (k0_off3_inb t)).toLoadRect fi) x : BitVec 32).toNat
        = w (n₀ + 16 * t.val + (x 0).val) := fun x => by
      have hx : (x 0).val < 16 := (x 0).isLt
      have ht : t.val < 1250 := lt_of_lt_of_le t.isLt k0_t2_abs.2.1
      refine (congrArg BitVec.toNat (ld_at (Val := Elt F) iV.view fi (k0_off3_inb t) (16 * t.val) (k0_off3_eq t) x (ix (16 * t.val + (x 0).val) (by omega)) rfl)).trans ?_
      exact (hfi _).trans (congrArg w (Nat.add_assoc _ _ _).symm)
    have hc : k0_chk1 (iV.view.readAt (Elt F) (Rect.unit (s := S20000) (k0_off3 t) S16.size (k0_off3_inb t)).toLoadRect fi) := fun a x =>
      match a with | ⟨0, _⟩ => lt_of_eq_of_lt (hv x) (hw _)
    sl_exec
    ihave H := (Entails.of_eq (pts_hW (F := F) d L _).symm) $$ H
    iapply (SparseCore.wp_vectorStoreIdx 𝒱₀ (thrV d L) none Set.univ (base := hV)) $$ [H]
    · iexact H
    iintro H
    ihave H := (Entails.of_eq (pts_hW (F := F) d L _)) $$ H
    rw [wp_pure]; imodintro
    isplitr [HI]; swap; · iexact HI
    rw [show n₀ + 16 * (t.val + 1) = n₀ + 16 * t.val + 16 by omega]
    iapply (Entails.of_eq (congrArg (hPts (F := F) d L) (store_ones (F := F) w (n₀ + 16 * t.val) _ hv hc)))
    iexact H
  · unfold inv2; isplitl [H] <;> iassumption
  iintro %acc HI
  unfold inv2
  icases HI with ⟨H, HI⟩
  have e : Scf.trips k0_t2_loop.lb k0_t2_loop.ub k0_t2_loop.st = 1250 := by decide +kernel
  rw [e]
  ispecialize HK $$ %acc [H HI]
  · isplitl [H] <;> iassumption
  iexact HK

/-- After `t` trips the table counts the first `16 t` more entries of the sequence of bins. -/
def inv3 (w : ℕ → ℕ) (n₀ : ℕ) (fi : (L1 20000).Idx → BitVec 32) (t : ℕ) : sProp 𝕄 :=
  iprop(hPts d L (fun j => tally w (n₀ + 16 * t) (j 0).val) ∗ iPts d L fi)

/-- The tile counts the sources it was handed, in the table's upper half. -/
theorem loop3 (w : ℕ → ℕ) (n₀ : ℕ) (fi : (L1 20000).Idx → BitVec 32) (hfl : ∀ j, (fi j).toNat < 10000) (hfi : ∀ j, (fi j).toNat + 10240 = w (n₀ + (j 0).val)) (hw : ∀ q, w q < 20480)
    {k : BitVec 32 → Prog (TpuEff nD τ sig (Elt F) Λ₀ (.scVector (cV L) (jV L))) α} :
    iprop(hPts d L (fun j => tally w n₀ (j 0).val) ∗ iPts d L fi : sProp 𝕄)
      ⊢ iprop((∀ acc, (hPts d L (fun j => tally w (n₀ + 20000) (j 0).val) ∗ iPts d L fi) -∗ wp frame (wpE (defs₀ (F := F)) 𝒱₀ (thrV d L) none) Set.univ (k acc) Q)
      -∗ wp frame (wpE (defs₀ (F := F)) 𝒱₀ (thrV d L) none) Set.univ (Scf.Loop.for k0_t3_loop k0_t3_ok 0#32 (t3B L) >>= k) Q) := by
  iintro ⟨H, HI⟩ HK
  sl_for (fun t (_ : BitVec 32) => inv3 (F := F) d L w n₀ fi t) $$ [H HI]
  case region =>
    intro t acc
    unfold inv3
    iintro ⟨H, HI⟩
    have hv : ∀ x : (L1 16).Idx, ((k0_pay6 (F := F) (iV.view.readAt (Elt F) (Rect.unit (s := S20000) (k0_off4 t) S16.size (k0_off4_inb t)).toLoadRect fi)) x : BitVec 32).toNat
        = w (n₀ + 16 * t.val + (x 0).val) := fun x => by
      have hx : (x 0).val < 16 := (x 0).isLt
      have ht : t.val < 1250 := lt_of_lt_of_le t.isLt k0_t3_abs.2.1
      have e := (congrArg BitVec.toNat (ld_at (Val := Elt F) iV.view fi (k0_off4_inb t) (16 * t.val) (k0_off4_eq t) x (ix (16 * t.val + (x 0).val) (by omega)) rfl))
      have hb := hfl (ix (16 * t.val + (x 0).val) (by omega))
      have hx := hfi (ix (16 * t.val + (x 0).val) (by omega))
      have e' : (((iV.view.readAt (Elt F) (Rect.unit (s := S20000) (k0_off4 t) S16.size (k0_off4_inb t)).toLoadRect fi) x : BitVec 32) + 10240#32).toNat = (fi (ix (16 * t.val + (x 0).val) (by omega))).toNat + 10240 := by
        rw [BitVec.toNat_add, show ((iV.view.readAt (Elt F) (Rect.unit (s := S20000) (k0_off4 t) S16.size (k0_off4_inb t)).toLoadRect fi) x : BitVec 32).toNat = (fi (ix (16 * t.val + (x 0).val) (by omega))).toNat from e]
        exact Nat.mod_eq_of_lt (by show _ + 10240 < 4294967296; omega)
      exact e'.trans (hx.trans (congrArg w (Nat.add_assoc _ _ _).symm))
    have hc : k0_chk2 (k0_pay6 (F := F) (iV.view.readAt (Elt F) (Rect.unit (s := S20000) (k0_off4 t) S16.size (k0_off4_inb t)).toLoadRect fi)) := fun a x =>
      match a with | ⟨0, _⟩ => lt_of_eq_of_lt (hv x) (hw _)
    sl_exec
    ihave H := (Entails.of_eq (pts_hW (F := F) d L _).symm) $$ H
    iapply (SparseCore.wp_vectorStoreIdx 𝒱₀ (thrV d L) none Set.univ (base := hV)) $$ [H]
    · iexact H
    iintro H
    ihave H := (Entails.of_eq (pts_hW (F := F) d L _)) $$ H
    rw [wp_pure]; imodintro
    isplitr [HI]; swap; · iexact HI
    rw [show n₀ + 16 * (t.val + 1) = n₀ + 16 * t.val + 16 by omega]
    iapply (Entails.of_eq (congrArg (hPts (F := F) d L) (store_ones (F := F) w (n₀ + 16 * t.val) _ hv hc)))
    iexact H
  · unfold inv3; isplitl [H] <;> iassumption
  iintro %acc HI
  unfold inv3
  icases HI with ⟨H, HI⟩
  have e : Scf.trips k0_t3_loop.lb k0_t3_loop.ub k0_t3_loop.st = 1250 := by decide +kernel
  rw [e]
  ispecialize HK $$ %acc [H HI]
  · isplitl [H] <;> iassumption
  iexact HK

/-! ## Adding up -/

/-- After `t` trips the first `16 t` sums have their addends. -/
def inv6 (fa fs : (L1 1280).Idx → F .f32) (t : ℕ) : sProp 𝕄 :=
  iprop(∃ g : (L1 1280).Idx → F .f32, ⌜∀ j, g j = if (j 0).val < 16 * t then FloatOps.addf (fa j) (fs j) else fa j⌝ ∗ aPts d L g ∗ sPts d L fs)

/-- The tile adds a piece to its sums. -/
theorem loop6 (fa fs : (L1 1280).Idx → F .f32)
    {k : BitVec 32 → Prog (TpuEff nD τ sig (Elt F) Λ₀ (.scVector (cV L) (jV L))) α} :
    iprop(aPts d L fa ∗ sPts d L fs : sProp 𝕄)
      ⊢ iprop((∀ acc, (aPts d L (fun j => FloatOps.addf (fa j) (fs j)) ∗ sPts d L fs) -∗ wp frame (wpE (defs₀ (F := F)) 𝒱₀ (thrV d L) none) Set.univ (k acc) Q)
      -∗ wp frame (wpE (defs₀ (F := F)) 𝒱₀ (thrV d L) none) Set.univ (Scf.Loop.for k0_t6_loop k0_t6_ok 0#32 (t6B L) >>= k) Q) := by
  iintro ⟨H, HS⟩ HK
  sl_for (fun t (_ : BitVec 32) => inv6 (F := F) d L fa fs t) $$ [H HS]
  case region =>
    intro t acc
    unfold inv6
    iintro ⟨%g, %hg, H, HS⟩
    sl_exec
    sl_step
    iexists _; isplitr; swap
    · isplitl [H]; · iexact H
      iexact HS
    ipureintro; intro j
    by_cases h : (j 0).val < 16 * t.val
    · rw [if_pos (by omega)]
      refine (st_miss (Val := Elt F) aV.view g _ _ (k0_off8_eq t) _ j (.inl h)).trans ((hg j).trans (if_pos h))
    by_cases h' : (j 0).val < 16 * (t.val + 1)
    · rw [if_pos h']
      refine (st_hit (Val := Elt F) aV.view g _ _ (k0_off8_eq t) _ j (ix (n := 16) ((j 0).val - 16 * t.val) (by omega)) (by show (j 0).val = 16 * t.val + ((j 0).val - 16 * t.val); omega)).trans ?_
      refine congrArg₂ FloatOps.addf ((ld_at (Val := Elt F) aV.view g _ _ (k0_off8_eq t) (ix (n := 16) ((j 0).val - 16 * t.val) (by omega)) j
        (by show (j 0).val = 16 * t.val + ((j 0).val - 16 * t.val); omega)).trans ((hg j).trans (if_neg h)))
        (ld_at (Val := Elt F) sV.view fs _ _ (k0_off8_eq t) (ix (n := 16) ((j 0).val - 16 * t.val) (by omega)) j
        (by show (j 0).val = 16 * t.val + ((j 0).val - 16 * t.val); omega))
    · rw [if_neg h']
      refine (st_miss (Val := Elt F) aV.view g _ _ (k0_off8_eq t) _ j (.inr (by omega))).trans ((hg j).trans (if_neg h))
  · unfold inv6; iexists fa; isplitr; · ipureintro; intro j; rw [if_neg (by omega)]
    isplitl [H] <;> iassumption
  iintro %acc HI
  unfold inv6
  icases HI with ⟨%g, %hg, H, HS⟩
  obtain rfl : g = fun j => FloatOps.addf (fa j) (fs j) := funext fun j => (hg j).trans (if_pos (by
    have : (j 0).val < 1280 := (j 0).isLt
    have : Scf.trips k0_t6_loop.lb k0_t6_loop.ub k0_t6_loop.st = 80 := by decide +kernel
    omega))
  ispecialize HK $$ %acc [H HS]
  · isplitl [H] <;> iassumption
  iexact HK

/-! ## Looking up -/

/-- What the tile computes at an entry of its lists. -/
def look (H : (L1 20480).Idx → F .f32) (ft fe : (L1 10000).Idx → BitVec 32) (hft : ∀ j, (ft j).toNat < 10000) (hfe : ∀ j, (fe j).toNat < 10000) (j : (L1 10000).Idx) : F .f32 :=
  FloatOps.mulf (FloatOps.addf (H (ix (ft j).toNat (lt_trans (hft j) (by decide)))) (H (ix ((fe j).toNat + 10240) (by have := hfe j; omega)))) halfF

/-- The two indexed loads, added and halved, are what is to be computed there. -/
theorem look_eq (H : (L1 20480).Idx → F .f32) (ft fe : (L1 10000).Idx → BitVec 32) (hft : ∀ j, (ft j).toNat < 10000) (hfe : ∀ j, (fe j).toNat < 10000) (j : (L1 10000).Idx)
    (v u : IVec S16 32) (hv : ∀ a x, ((![v] : Fin 1 → IVec S16 32) a x).toNat < S20480.size a) (hu : ∀ a x, ((![u] : Fin 1 → IVec S16 32) a x).toNat < S20480.size a)
    (x : (L1 16).Idx) (ev : (v x).toNat = (ft j).toNat) (eu : (u x).toNat = (fe j).toNat + 10240) :
    k0_pay3 (F := F) (loadIdx (F := F) (e := .f32) ((hV.access (.whole S20480)).read (Elt F) H) ![v] hv)
      (loadIdx (F := F) (e := .f32) ((hV.access (.whole S20480)).read (Elt F) H) ![u] hu) x = look H ft fe hft hfe j := by
  have e : (hV.access (.whole S20480)).read (Elt F) H = H := Memref.read_access_whole (Elt F) (cc0_scratch0 : Ref sig .scVector) _
  rw [e]
  show FloatOps.mulf (FloatOps.addf (H (idxAt (s := L1 20480) ![v] hv x)) (H (idxAt (s := L1 20480) ![u] hu x))) halfF = _
  unfold look
  rw [show idxAt (s := L1 20480) ![v] hv x = ix (ft j).toNat (lt_trans (hft j) (by decide)) from idx_ext ev,
    show idxAt (s := L1 20480) ![u] hu x = ix ((fe j).toNat + 10240) (by have := hfe j; omega) from idx_ext eu]

/-- After `t` trips the first `16 t` results are there. -/
def inv7 (H : (L1 20480).Idx → F .f32) (ft fe : (L1 10000).Idx → BitVec 32) (hft : ∀ j, (ft j).toNat < 10000) (hfe : ∀ j, (fe j).toNat < 10000) (t : ℕ) : sProp 𝕄 :=
  iprop(∃ g : (L1 10000).Idx → F .f32, ⌜∀ j, (j 0).val < 16 * t → g j = look H ft fe hft hfe j⌝ ∗ bPts d L g ∗ hPts d L H ∗ tPts d L ft ∗ ePts d L fe)

/-- The tile looks its lists up in the summed table. -/
theorem loop7 (H : (L1 20480).Idx → F .f32) (ft fe : (L1 10000).Idx → BitVec 32) (hft : ∀ j, (ft j).toNat < 10000) (hfe : ∀ j, (fe j).toNat < 10000) (fb : (L1 10000).Idx → F .f32)
    {k : BitVec 32 → Prog (TpuEff nD τ sig (Elt F) Λ₀ (.scVector (cV L) (jV L))) α} :
    iprop(bPts d L fb ∗ hPts d L H ∗ tPts d L ft ∗ ePts d L fe : sProp 𝕄)
      ⊢ iprop((∀ acc, (bPts d L (look H ft fe hft hfe) ∗ hPts d L H ∗ tPts d L ft ∗ ePts d L fe) -∗ wp frame (wpE (defs₀ (F := F)) 𝒱₀ (thrV d L) none) Set.univ (k acc) Q)
      -∗ wp frame (wpE (defs₀ (F := F)) 𝒱₀ (thrV d L) none) Set.univ (Scf.Loop.for k0_t7_loop k0_t7_ok 0#32 (t7B L) >>= k) Q) := by
  iintro ⟨HB, HH, HT, HE⟩ HK
  sl_for (fun t (_ : BitVec 32) => inv7 (F := F) d L H ft fe hft hfe t) $$ [HB HH HT HE]
  case region =>
    intro t acc
    unfold inv7
    iintro ⟨%g, %hg, HB, HH, HT, HE⟩
    have ht : t.val < 625 := lt_of_lt_of_le t.isLt k0_t7_abs.2.1
    have hv : ∀ (x : (L1 16).Idx) (j : (L1 10000).Idx), (j 0).val = 16 * t.val + (x 0).val → ((tV.view.readAt (Elt F) (Rect.unit (s := S10000) (k0_off11 t) S16.size (k0_off11_inb t)).toLoadRect ft) x : BitVec 32).toNat = (ft j).toNat := fun x j h =>
      congrArg BitVec.toNat (ld_at (Val := Elt F) tV.view ft (k0_off11_inb t) (16 * t.val) (k0_off11_eq t) x j h)
    have hu : ∀ (x : (L1 16).Idx) (j : (L1 10000).Idx), (j 0).val = 16 * t.val + (x 0).val → (k0_pay2 (F := F) (eV.view.readAt (Elt F) (Rect.unit (s := S10000) (k0_off12 t) S16.size (k0_off12_inb t)).toLoadRect fe) x : BitVec 32).toNat = (fe j).toNat + 10240 := fun x j h => by
      have e : ((eV.view.readAt (Elt F) (Rect.unit (s := S10000) (k0_off12 t) S16.size (k0_off12_inb t)).toLoadRect fe) x : BitVec 32).toNat = (fe j).toNat :=
        congrArg BitVec.toNat (ld_at (Val := Elt F) eV.view fe (k0_off12_inb t) (16 * t.val) (k0_off12_eq t) x j h)
      have hb := hfe j
      show (((eV.view.readAt (Elt F) (Rect.unit (s := S10000) (k0_off12 t) S16.size (k0_off12_inb t)).toLoadRect fe) x : BitVec 32) + 10240#32).toNat = _
      rw [BitVec.toNat_add, e]
      exact Nat.mod_eq_of_lt (by show _ + 10240 < 4294967296; omega)
    have hc3 : k0_chk3 (tV.view.readAt (Elt F) (Rect.unit (s := S10000) (k0_off11 t) S16.size (k0_off11_inb t)).toLoadRect ft) := fun a x => by
        obtain rfl : a = 0 := Subsingleton.elim _ _
        have hx : (x 0).val < 16 := (x 0).isLt
        have := hft (ix (16 * t.val + (x 0).val) (by omega))
        refine lt_of_eq_of_lt (hv x (ix (16 * t.val + (x 0).val) (by omega)) rfl) (show _ < 20480 by omega)
    have hc4 : k0_chk4 (k0_pay2 (F := F) (eV.view.readAt (Elt F) (Rect.unit (s := S10000) (k0_off12 t) S16.size (k0_off12_inb t)).toLoadRect fe)) := fun a x => by
        obtain rfl : a = 0 := Subsingleton.elim _ _
        have hx : (x 0).val < 16 := (x 0).isLt
        have := hfe (ix (16 * t.val + (x 0).val) (by omega))
        refine lt_of_eq_of_lt (hu x (ix (16 * t.val + (x 0).val) (by omega)) rfl) (show _ < 20480 by omega)
    sl_exec
    ihave HH := (Entails.of_eq (pts_hU (F := F) d L _).symm) $$ HH
    iapply (SparseCore.wp_vectorLoadIdx 𝒱₀ (thrV d L) none Set.univ (base := hV) (S := Finset.univ) (Finset.subset_univ _)) $$ HH
    iintro HH
    sl_exec
    iapply (SparseCore.wp_vectorLoadIdx 𝒱₀ (thrV d L) none Set.univ (base := hV) (S := Finset.univ) (Finset.subset_univ _)) $$ HH
    iintro HH
    sl_exec
    ihave HH := (Entails.of_eq (pts_hU (F := F) d L _)) $$ HH
    sl_step
    iexists _; isplitr; swap
    · isplitl [HB]; · iexact HB
      isplitl [HH]; · iexact HH
      isplitl [HT]; · iexact HT
      iexact HE
    ipureintro; intro j hj
    by_cases h : (j 0).val < 16 * t.val
    · exact (st_miss (Val := Elt F) bV.view g _ _ (k0_off13_eq t) _ j (.inl h)).trans (hg j h)
    refine (st_hit (Val := Elt F) bV.view g _ _ (k0_off13_eq t) _ j (ix (n := 16) ((j 0).val - 16 * t.val) (by omega)) (by show (j 0).val = 16 * t.val + ((j 0).val - 16 * t.val); omega)).trans ?_
    have hj' : (j 0).val = 16 * t.val + ((ix (n := 16) ((j 0).val - 16 * t.val) (by omega) : (L1 16).Idx) 0).val := by show (j 0).val = 16 * t.val + ((j 0).val - 16 * t.val); omega
    exact look_eq H ft fe hft hfe j _ _ hc3 hc4 _ (hv _ j hj') (hu _ j hj')
  · unfold inv7; iexists fb; isplitr; · ipureintro; intro j hj; omega
    isplitl [HB]; · iexact HB
    isplitl [HH]; · iexact HH
    isplitl [HT] <;> iassumption
  iintro %acc HI
  unfold inv7
  icases HI with ⟨%g, %hg, HB, HH, HT, HE⟩
  obtain rfl : g = look H ft fe hft hfe := funext fun j => (hg j (by
    have : (j 0).val < 10000 := (j 0).isLt
    have : Scf.trips k0_t7_loop.lb k0_t7_loop.ub k0_t7_loop.st = 625 := by decide +kernel
    omega))
  ispecialize HK $$ %acc [HB HH HT HE]
  · isplitl [HB]; · iexact HB
    isplitl [HH]; · iexact HH
    isplitl [HT] <;> iassumption
  iexact HK

end

end Cert.Proof.KI

end
-- ==== Proof.KI.Slices.lean ====
/- The slices of the lists, of the shared scratch and of the result that a tile copies. -/
module

public import proofs.«01_k».proof.Proof.KI.Loops

@[expose] public section

noncomputable section

namespace Cert.Proof.KI

open Cert.KernelIdeal Cert.KernelIdeal.Gen Cert.Proof.Vals

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

attribute [local instance] blocks

local notation "𝕄" => MT nD τ sig (HIx 2) (Elt F) ℕ UU ℕ

/-! ## The slices the task copies -/

/-- A run of positions as a rectangle is a segment. -/
theorem rect_seg {n len o : ℕ} {off : Fin 1 → ℕ} (inb : ∀ a, off a + (L1 len).size a ≤ (L1 n).size a) (ho : off = ![o]) :
    (Rect.unit (s := L1 n) off (L1 len).size inb).set = seg n o len := by
  subst ho
  ext y
  rw [Rect.mem_set_unit, mem_seg]
  constructor
  · intro h; exact h 0
  · intro h a
    obtain rfl : a = 0 := Subsingleton.elim _ _
    exact h

section
variable (d : Dev nD) (L : grid0.Coords)

/-- The tile's number in its SparseCore, and the SparseCore's in the call's grid. -/
abbrev jN (L : grid0.Coords) : ℕ := (jV L).val
abbrev cN (L : grid0.Coords) : ℕ := (L 0).val

abbrev dsSl (L : grid0.Coords) : Memref sig .scVector .hbm S20000 .i32 := dsV.slice (Rect.unit (s := S320000) (k0_off2 L) S20000.size (k0_off2_inb L)) (fun _ => rfl)
theorem set_dsSl : (dsSl L).view.set = seg 320000 (20000 * jN L) 20000 := by
  show ((View.whole main_v7_scv).slice (Rect.unit (s := S320000) (k0_off2 L) S20000.size (k0_off2_inb L))).set = _
  rw [View.set_slice]; exact Finset.map_refl.trans (rect_seg _ (k0_off2_eq L))
theorem pts_dsSl (q : PosShare TreeShare) (f : Buf (Elt F) (dsLoc d)) :
    ((dsSl L).view.loc (V d (cV L) (jV L)) ↦[(dsSl L).view.set]{q} f : sProp 𝕄) = dsLoc d ↦[seg 320000 (20000 * jN L) 20000]{q} f := by
  rw [set_dsSl]
theorem emb_dsSl (x : (L1 20000).Idx) : (((dsSl L).view.emb x : (L1 320000).Idx) 0).val = 20000 * jN L + (x 0).val := by
  show ((k0_off2 L) 0) + 1 * (x 0).val = _
  rw [show ((k0_off2 L) 0) = 20000 * jN L from congrFun ((k0_off2_eq L) : _ = ![20000 * jN L]) 0, Nat.one_mul]
abbrev srSl (L : grid0.Coords) : Memref sig .scVector .hbm S20000 .i32 := srV.slice (Rect.unit (s := S320000) (k0_off2 L) S20000.size (k0_off2_inb L)) (fun _ => rfl)
theorem set_srSl : (srSl L).view.set = seg 320000 (20000 * jN L) 20000 := by
  show ((View.whole main_v5_scv).slice (Rect.unit (s := S320000) (k0_off2 L) S20000.size (k0_off2_inb L))).set = _
  rw [View.set_slice]; exact Finset.map_refl.trans (rect_seg _ (k0_off2_eq L))
theorem pts_srSl (q : PosShare TreeShare) (f : Buf (Elt F) (srLoc d)) :
    ((srSl L).view.loc (V d (cV L) (jV L)) ↦[(srSl L).view.set]{q} f : sProp 𝕄) = srLoc d ↦[seg 320000 (20000 * jN L) 20000]{q} f := by
  rw [set_srSl]
theorem emb_srSl (x : (L1 20000).Idx) : (((srSl L).view.emb x : (L1 320000).Idx) 0).val = 20000 * jN L + (x 0).val := by
  show ((k0_off2 L) 0) + 1 * (x 0).val = _
  rw [show ((k0_off2 L) 0) = 20000 * jN L from congrFun ((k0_off2_eq L) : _ = ![20000 * jN L]) 0, Nat.one_mul]
abbrev shRowSl (L : grid0.Coords) : Memref sig .scVector .shared S20480 .f32 := shV.slice (Rect.unit (s := S327680) (k0_off5 L) S20480.size (k0_off5_inb L)) (fun _ => rfl)
theorem set_shRowSl : (shRowSl L).view.set = seg 327680 (20480 * jN L) 20480 := by
  show ((View.whole cc0_scratch7).slice (Rect.unit (s := S327680) (k0_off5 L) S20480.size (k0_off5_inb L))).set = _
  rw [View.set_slice]; exact Finset.map_refl.trans (rect_seg _ (k0_off5_eq L))
theorem pts_shRowSl (q : PosShare TreeShare) (f : Buf (Elt F) (shLoc d (cV L))) :
    ((shRowSl L).view.loc (V d (cV L) (jV L)) ↦[(shRowSl L).view.set]{q} f : sProp 𝕄) = shLoc d (cV L) ↦[seg 327680 (20480 * jN L) 20480]{q} f := by
  rw [set_shRowSl]; rfl
theorem emb_shRowSl (x : (L1 20480).Idx) : (((shRowSl L).view.emb x : (L1 327680).Idx) 0).val = 20480 * jN L + (x 0).val := by
  show ((k0_off5 L) 0) + 1 * (x 0).val = _
  rw [show ((k0_off5 L) 0) = 20480 * jN L from congrFun ((k0_off5_eq L) : _ = ![20480 * jN L]) 0, Nat.one_mul]
abbrev pcSl (L : grid0.Coords) (t : Fin k0_t5_loop.trips) : Memref sig .scVector .shared S1280 .f32 := shV.slice (Rect.unit (s := S327680) (k0_off7 L t) S1280.size (k0_off7_inb L t)) (fun _ => rfl)
theorem set_pcSl (t : Fin k0_t5_loop.trips) : (pcSl L t).view.set = seg 327680 (20480 * t.val + 1280 * jN L) 1280 := by
  show ((View.whole cc0_scratch7).slice (Rect.unit (s := S327680) (k0_off7 L t) S1280.size (k0_off7_inb L t))).set = _
  rw [View.set_slice]; exact Finset.map_refl.trans (rect_seg _ (k0_off7_eq L t))
theorem pts_pcSl (t : Fin k0_t5_loop.trips) (q : PosShare TreeShare) (f : Buf (Elt F) (shLoc d (cV L))) :
    ((pcSl L t).view.loc (V d (cV L) (jV L)) ↦[(pcSl L t).view.set]{q} f : sProp 𝕄) = shLoc d (cV L) ↦[seg 327680 (20480 * t.val + 1280 * jN L) 1280]{q} f := by
  rw [set_pcSl]; rfl
theorem emb_pcSl (t : Fin k0_t5_loop.trips) (x : (L1 1280).Idx) : (((pcSl L t).view.emb x : (L1 327680).Idx) 0).val = 20480 * t.val + 1280 * jN L + (x 0).val := by
  show ((k0_off7 L t) 0) + 1 * (x 0).val = _
  rw [show ((k0_off7 L t) 0) = 20480 * t.val + 1280 * jN L from congrFun ((k0_off7_eq L t) : _ = ![20480 * t.val + 1280 * jN L]) 0, Nat.one_mul]
abbrev p0Sl (L : grid0.Coords) : Memref sig .scVector .shared S1280 .f32 := shV.slice (Rect.unit (s := S327680) (k0_off9 L) S1280.size (k0_off9_inb L)) (fun _ => rfl)
theorem set_p0Sl : (p0Sl L).view.set = seg 327680 (1280 * jN L) 1280 := by
  show ((View.whole cc0_scratch7).slice (Rect.unit (s := S327680) (k0_off9 L) S1280.size (k0_off9_inb L))).set = _
  rw [View.set_slice]; exact Finset.map_refl.trans (rect_seg _ (k0_off9_eq L))
theorem pts_p0Sl (q : PosShare TreeShare) (f : Buf (Elt F) (shLoc d (cV L))) :
    ((p0Sl L).view.loc (V d (cV L) (jV L)) ↦[(p0Sl L).view.set]{q} f : sProp 𝕄) = shLoc d (cV L) ↦[seg 327680 (1280 * jN L) 1280]{q} f := by
  rw [set_p0Sl]; rfl
theorem emb_p0Sl (x : (L1 1280).Idx) : (((p0Sl L).view.emb x : (L1 327680).Idx) 0).val = 1280 * jN L + (x 0).val := by
  show ((k0_off9 L) 0) + 1 * (x 0).val = _
  rw [show ((k0_off9 L) 0) = 1280 * jN L from congrFun ((k0_off9_eq L) : _ = ![1280 * jN L]) 0, Nat.one_mul]
abbrev r0Sl : Memref sig .scVector .shared S20480 .f32 := shV.slice (Rect.unit (s := S327680) ![0] S20480.size inb_S327680_S20480_0) (fun _ => rfl)
theorem set_r0Sl : (r0Sl).view.set = seg 327680 (0) 20480 := by
  show ((View.whole cc0_scratch7).slice (Rect.unit (s := S327680) ![0] S20480.size inb_S327680_S20480_0)).set = _
  rw [View.set_slice]; exact Finset.map_refl.trans (rect_seg _ rfl)
theorem pts_r0Sl (q : PosShare TreeShare) (f : Buf (Elt F) (shLoc d (cV L))) :
    ((r0Sl).view.loc (V d (cV L) (jV L)) ↦[(r0Sl).view.set]{q} f : sProp 𝕄) = shLoc d (cV L) ↦[seg 327680 (0) 20480]{q} f := by
  rw [set_r0Sl]; rfl
theorem emb_r0Sl (x : (L1 20480).Idx) : (((r0Sl).view.emb x : (L1 327680).Idx) 0).val = 0 + (x 0).val := by
  show (![0] 0) + 1 * (x 0).val = _
  rw [show (![0] 0) = 0 from congrFun (rfl : _ = ![0]) 0, Nat.one_mul]
abbrev tlSl (L : grid0.Coords) : Memref sig .scVector .hbm S10000 .i32 := tlV.slice (Rect.unit (s := S320000) (k0_off10 L) S10000.size (k0_off10_inb L)) (fun _ => rfl)
theorem set_tlSl : (tlSl L).view.set = seg 320000 (160000 * cN L + 10000 * jN L) 10000 := by
  show ((View.whole main_v3_scv).slice (Rect.unit (s := S320000) (k0_off10 L) S10000.size (k0_off10_inb L))).set = _
  rw [View.set_slice]; exact Finset.map_refl.trans (rect_seg _ (k0_off10_eq L))
theorem pts_tlSl (q : PosShare TreeShare) (f : Buf (Elt F) (tlLoc d)) :
    ((tlSl L).view.loc (V d (cV L) (jV L)) ↦[(tlSl L).view.set]{q} f : sProp 𝕄) = tlLoc d ↦[seg 320000 (160000 * cN L + 10000 * jN L) 10000]{q} f := by
  rw [set_tlSl]
theorem emb_tlSl (x : (L1 10000).Idx) : (((tlSl L).view.emb x : (L1 320000).Idx) 0).val = 160000 * cN L + 10000 * jN L + (x 0).val := by
  show ((k0_off10 L) 0) + 1 * (x 0).val = _
  rw [show ((k0_off10 L) 0) = 160000 * cN L + 10000 * jN L from congrFun ((k0_off10_eq L) : _ = ![160000 * cN L + 10000 * jN L]) 0, Nat.one_mul]
abbrev hdSl (L : grid0.Coords) : Memref sig .scVector .hbm S10000 .i32 := hdV.slice (Rect.unit (s := S320000) (k0_off10 L) S10000.size (k0_off10_inb L)) (fun _ => rfl)
theorem set_hdSl : (hdSl L).view.set = seg 320000 (160000 * cN L + 10000 * jN L) 10000 := by
  show ((View.whole main_v1_scv).slice (Rect.unit (s := S320000) (k0_off10 L) S10000.size (k0_off10_inb L))).set = _
  rw [View.set_slice]; exact Finset.map_refl.trans (rect_seg _ (k0_off10_eq L))
theorem pts_hdSl (q : PosShare TreeShare) (f : Buf (Elt F) (hdLoc d)) :
    ((hdSl L).view.loc (V d (cV L) (jV L)) ↦[(hdSl L).view.set]{q} f : sProp 𝕄) = hdLoc d ↦[seg 320000 (160000 * cN L + 10000 * jN L) 10000]{q} f := by
  rw [set_hdSl]
theorem emb_hdSl (x : (L1 10000).Idx) : (((hdSl L).view.emb x : (L1 320000).Idx) 0).val = 160000 * cN L + 10000 * jN L + (x 0).val := by
  show ((k0_off10 L) 0) + 1 * (x 0).val = _
  rw [show ((k0_off10 L) 0) = 160000 * cN L + 10000 * jN L from congrFun ((k0_off10_eq L) : _ = ![160000 * cN L + 10000 * jN L]) 0, Nat.one_mul]
abbrev oSl (L : grid0.Coords) : Memref sig .scVector .hbm S10000 .f32 := oV.slice (Rect.unit (s := S320000) (k0_off10 L) S10000.size (k0_off10_inb L)) (fun _ => rfl)
theorem set_oSl : (oSl L).view.set = seg 320000 (160000 * cN L + 10000 * jN L) 10000 := by
  show ((View.whole main_v8_scv).slice (Rect.unit (s := S320000) (k0_off10 L) S10000.size (k0_off10_inb L))).set = _
  rw [View.set_slice]; exact Finset.map_refl.trans (rect_seg _ (k0_off10_eq L))
theorem pts_oSl (q : PosShare TreeShare) (f : Buf (Elt F) (oLoc d)) :
    ((oSl L).view.loc (V d (cV L) (jV L)) ↦[(oSl L).view.set]{q} f : sProp 𝕄) = oLoc d ↦[seg 320000 (160000 * cN L + 10000 * jN L) 10000]{q} f := by
  rw [set_oSl]
theorem emb_oSl (x : (L1 10000).Idx) : (((oSl L).view.emb x : (L1 320000).Idx) 0).val = 160000 * cN L + 10000 * jN L + (x 0).val := by
  show ((k0_off10 L) 0) + 1 * (x 0).val = _
  rw [show ((k0_off10 L) 0) = 160000 * cN L + 10000 * jN L from congrFun ((k0_off10_eq L) : _ = ![160000 * cN L + 10000 * jN L]) 0, Nat.one_mul]

/-- The index lists at a share, as a tile addresses them. -/
abbrev hdPts (q : PosShare TreeShare) (f : (L1 320000).Idx → BitVec 32) : sProp 𝕄 := (hdV).view.loc (thrV d L) ↦{q} f
abbrev tlPts (q : PosShare TreeShare) (f : (L1 320000).Idx → BitVec 32) : sProp 𝕄 := (tlV).view.loc (thrV d L) ↦{q} f
abbrev srPts (q : PosShare TreeShare) (f : (L1 320000).Idx → BitVec 32) : sProp 𝕄 := (srV).view.loc (thrV d L) ↦{q} f
abbrev dsPts (q : PosShare TreeShare) (f : (L1 320000).Idx → BitVec 32) : sProp 𝕄 := (dsV).view.loc (thrV d L) ↦{q} f

/-- A slice held after a whole write is it held at any contents agreeing with the payload. -/
theorem wrote {sg : RefSig} {κ : Kind} {sp : Space} {len : ℕ} (v : View sg κ sp (L1 len) .f32) (f g : v.ty.Contents (Elt F)) (w : (L1 len).Idx → F .f32)
    (h : ∀ x, _root_.cast (congrArg (Elt F) v.elt_eq.symm) (w x) = g (v.emb x)) : ∀ i ∈ v.set, v.writes (Elt F) f [⟨Rect.whole (L1 len), w⟩] i = g i := by
  intro i hi
  obtain ⟨x, -, rfl⟩ := Finset.mem_map.mp hi
  rw [← View.write_univ_eq_writes_whole v f [] w]
  rw [View.write_emb_of_mem (v := v) _ _ (Finset.mem_univ x)]; exact h x

/-- A buffer wholly written holds its payload. -/
theorem whole_in (b : Ref sig .scVector) (f w : b.ty.Contents (Elt F)) :
    ((Memref.whole b).view.loc (thrV d L) ↦{fullShare} (Memref.whole b).view.write (Elt F) f w Finset.univ : sProp 𝕄) = ((Memref.whole b).view.loc (thrV d L) ↦{fullShare} w) :=
  congrArg (fun g : b.ty.Contents (Elt F) => ((Memref.whole b).view.loc (thrV d L) ↦{fullShare} g : sProp 𝕄)) (View.write_whole_univ b f w)

variable [FloatOps F] (tb : Dev nD → Tabs)

/-- The tile's row of the shared scratch, its counts copied in, as its sixteen pieces. -/
theorem row_in (f : Buf (Elt F) (shLoc d (cV L))) (w : (L1 20480).Idx → F .f32) (hw : ∀ x, w x = hist (tb d) (jN L) (x 0).val) :
    ((shRowSl L).view.loc (thrV d L) ↦[(shRowSl L).view.set]{fullShare} (shRowSl L).view.writes (Elt F) f [⟨Rect.whole S20480, w⟩] : sProp 𝕄)
      = bigSep Finset.univ fun j : Fin 16 => piece tb d (cV L) (jV L) j := by
  refine (pointsTo_congr (wrote (shRowSl L).view f (shH tb d (cV L)) w fun x => ?_)).trans ?_; rotate_left
  · exact (pts_shRowSl d L _ _).trans (sh_segs (len := 1280) (k := 16) d (cV L) fullShare _)
  · have e := emb_shRowSl L x
    have hx : (x 0).val < 20480 := (x 0).isLt
    show w x = hist (tb d) ((((shRowSl L).view.emb x : (L1 327680).Idx) 0).val / 20480) ((((shRowSl L).view.emb x : (L1 327680).Idx) 0).val % 20480)
    rw [e, hw, Nat.mul_add_div (by decide), Nat.div_eq_of_lt hx, Nat.add_zero, Nat.mul_add_mod, Nat.mod_eq_of_lt hx]

/-- The tile's piece of the first row, the summed counts copied in. -/
theorem sum_in (f : Buf (Elt F) (shLoc d (cV L))) (w : (L1 1280).Idx → F .f32) (hw : ∀ x, w x = tot (tb d) (1280 * jN L + (x 0).val)) :
    ((p0Sl L).view.loc (thrV d L) ↦[(p0Sl L).view.set]{fullShare} (p0Sl L).view.writes (Elt F) f [⟨Rect.whole S1280, w⟩] : sProp 𝕄)
      = shLoc d (cV L) ↦[seg 327680 (1280 * jN L) 1280]{fullShare} shR tb d (cV L) := by
  refine (pointsTo_congr (wrote (p0Sl L).view f (shR tb d (cV L)) w fun x => ?_)).trans ?_; rotate_left
  · exact pts_p0Sl d L _ _
  show w x = tot (tb d) (((p0Sl L).view.emb x : (L1 327680).Idx) 0).val
  rw [emb_p0Sl, hw]

/-- The tile's part of the result, copied out. -/
theorem out_in (f : Buf (Elt F) (oLoc d)) (w : (L1 10000).Idx → F .f32) (hw : ∀ x, w x = res (tb d) (160000 * cN L + 10000 * jN L + (x 0).val)) :
    ((oSl L).view.loc (thrV d L) ↦[(oSl L).view.set]{fullShare} (oSl L).view.writes (Elt F) f [⟨Rect.whole S10000, w⟩] : sProp 𝕄)
      = oPart d (L 0) (jV L) (oR tb d) := by
  refine (pointsTo_congr (wrote (oSl L).view f (oR tb d) w fun x => ?_)).trans ?_; rotate_left
  · exact pts_oSl d L _ _
  show w x = res (tb d) (((oSl L).view.emb x : (L1 320000).Idx) 0).val
  rw [emb_oSl, hw]

end

end Cert.Proof.KI

end
-- ==== Proof.KI.TileA.lean ====
/- The first half of the task of a tile: counting, the deposit and the first meeting. -/
module

public import proofs.«01_k».proof.Proof.KI.Slices

@[expose] public section

noncomputable section

namespace Cert.Proof.KI

open Cert.KernelIdeal Cert.KernelIdeal.Gen Cert.Proof.Vals

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

attribute [local instance] blocks

local notation "𝕄" => MT nD τ sig (HIx 2) (Elt F) ℕ UU ℕ

section
variable [FloatOps F] (tb : Dev nD → Tabs) (d : Dev nD) (L : grid0.Coords)
variable {α : Type} {Q : α → sProp (MT nD τ sig (HIx 2) (Elt F) ℕ UU ℕ)}

/-- One of the task's own transfer semaphores. -/
abbrev dcell (s : DmaSems sig S_) : GSem nD τ sig := (thrV d L, .dma s.sem)

/-- At the first meeting a tile may wait: what it still owes lies above. -/
theorem may_first (O : CellTallies nD τ sig (HIx 2)) (hOlev : ∀ g ι, 0 < O g ι → 8 * (1 : Fin 2).val + 6 ≤ (K (F := F)).lev g ι) :
    (levAts (K (F := F)).L (K (F := F)).lev : sProp 𝕄) ⊢ MayWait (thrV d L) (.reg sc_bar0) (some 0) (O + oxS d (cV L) 1) := by
  refine (K (F := F)).mayOwe_of_bound (thr := thrV d L) 3 (fun p hp => ?_) (fun g ι hg => ?_)
  · rw [Finset.mem_singleton] at hp; subst hp
    show (K (F := F)).lev (bcell d (cV L) (jV L)) (some 0) ≤ 3
    rw [lev_bcell]; exact le_rfl
  · rw [Pi.add_apply, Finsupp.add_apply] at hg
    rcases Nat.eq_zero_or_pos (O g ι) with h0 | h0
    · rw [h0, Nat.zero_add] at hg
      obtain ⟨j, rfl, rfl⟩ := oxS_pos hg
      rw [lev_bcell]; decide
    · exact lt_of_lt_of_le (by decide) (hOlev g ι h0)

/-- At the second meeting too. -/
theorem may_second (O : CellTallies nD τ sig (HIx 2)) (hOlev : ∀ g ι, 0 < O g ι → 8 * (1 : Fin 2).val + 6 ≤ (K (F := F)).lev g ι) :
    (levAts (K (F := F)).L (K (F := F)).lev : sProp 𝕄) ⊢ MayWait (thrV d L) (.reg sc_bar0) (some 1) O := by
  refine (K (F := F)).mayOwe_of_bound (thr := thrV d L) 11 (fun p hp => ?_) (fun g ι hg => lt_of_lt_of_le (by decide) (hOlev g ι hg))
  rw [Finset.mem_singleton] at hp; subst hp
  show (K (F := F)).lev (bcell d (cV L) (jV L)) (some 1) ≤ 11
  rw [lev_bcell]; exact le_rfl

set_option maxHeartbeats 4000000 in
/-- The first half: the tile counts its two chunks, deposits its row, meets the others and takes its piece of every row. -/
theorem part1_run (hF : (K (F := F)).Facts) (hk : ∀ d, (tb d).Ok) (κ ν : GSem nD τ sig → ℕ) (O : CellTallies nD τ sig (HIx 2)) (W : Waits sig (HIx 2)) (hO : ∀ g, O g none = 0)
    (hOlev : ∀ g ι, 0 < O g ι → 8 * (1 : Fin 2).val + 6 ≤ (K (F := F)).lev g ι)
    {k : _ → Prog (TpuEff nD τ sig (Elt F) Λ₀ (.scVector (cV L) (jV L))) α} :
    iprop(levAts (K (F := F)).L (K (F := F)).lev
        ∗ (bigSep Finset.univ fun j : Fin 16 => cellInv EB (bRd (F := F) tb) (κ (bcell d (cV L) j)) (bcell d (cV L) j))
        ∗ (bigSep Finset.univ fun j : Fin 16 => reached EB (bcell d (cV L) j) 0)
        ∗ (bigSep Finset.univ fun j : Fin 16 => dutyTok EB (bcell d (cV L) j) 0 (jV L).val)
        ∗ (bigSep Finset.univ fun k : Fin 16 => inv (ν (dkey d (cV L) k)) (bank tb d (cV L) k))
        ∗ (bigSep Finset.univ fun k : Fin 16 => tok d (cV L) k (jV L))
        ∗ atPos EB (dkey d (cV L) (jV L)) 0 ∅ 0
        ∗ atPos EB (bcell d (cV L) (jV L)) 0 ∅ 0
        ∗ cred (tallyAt (bcell d (cV L) (jV L)) (some 0) 16)
        ∗ srPts d L (tq (L 0) (jV L)) (tb d).sr ∗ dsPts d L (tq (L 0) (jV L)) (tb d).ds
        ∗ (∃ f, shRow d (cV L) (jV L) f) ∗ (∃ f, hPts d L f) ∗ (∃ f, iPts d L f) ∗ (∃ f, aPts d L f)
        ∗ semVal (dcell d L cc0_scoped0) 0 ∗ semVal (dcell d L cc0_scoped1) 0 ∗ semVal (dcell d L cc0_scoped2) 0
        ∗ owes (thrV d L) (O + oxV d (cV L)) W)
      ⊢ iprop((∀ a S, (⌜S ⊆ Finset.range 32⌝ ∗ (∃ W', ⌜∀ p ∈ W', p ∈ W ∨ p.2 = none ∨ ∃ b, p.2 = some b⌝ ∗ owes (thrV d L) (O + oxS d (cV L) 1) W')
            ∗ atPos EB (bcell d (cV L) (jV L)) 0 S 16
            ∗ (bigSep Finset.univ fun k : Fin 16 => deps d (cV L) k)
            ∗ (bigSep S fun n => (bRd (F := F) tb).payload (bcell d (cV L) (jV L)) 0 n)
            ∗ (bigSep Finset.univ fun k : Fin 16 => piece tb d (cV L) k (jV L))
            ∗ srPts d L (tq (L 0) (jV L)) (tb d).sr ∗ dsPts d L (tq (L 0) (jV L)) (tb d).ds
            ∗ (∃ f, hPts d L f) ∗ (∃ f, iPts d L f) ∗ aPts d L (fun _ => zeroF)
            ∗ semVal (dcell d L cc0_scoped0) 0 ∗ semVal (dcell d L cc0_scoped1) 0 ∗ semVal (dcell d L cc0_scoped2) 0) -∗ wp frame (wpE (defs₀ (F := F)) 𝒱₀ (thrV d L) none) Set.univ (k a) Q)
        -∗ wp frame (wpE (defs₀ (F := F)) 𝒱₀ (thrV d L) none) Set.univ (k0_part1 (F := F) L hdV (Memref.isWhole_whole _) tlV (Memref.isWhole_whole _) srV (Memref.isWhole_whole _) dsV (Memref.isWhole_whole _) oV (Memref.isWhole_whole _) hV (Memref.isWhole_whole _) iV (Memref.isWhole_whole _) tV (Memref.isWhole_whole _) eV (Memref.isWhole_whole _) bV (Memref.isWhole_whole _) sV (Memref.isWhole_whole _) aV (Memref.isWhole_whole _) shV (Memref.isWhole_whole _) cc0_scoped0 cc0_scoped1 cc0_scoped2 cc0_scoped3 cc0_scoped4 cc0_scoped5 cc0_scoped6 cc0_scoped7 cc0_scoped8 >>= k) Q) := by
  simp only [k0_part1_eq_skeleton]; unfold k0_part1_skel
  iintro ⟨#Hlv, #Hinv, #Hrch, Htoks, #Hbk, Htk, Hatd, Hat, Hcred, Hsr, Hds, ⟨%fsh, Hsh⟩, ⟨%fh, Hh⟩, ⟨%fi, Hi⟩, ⟨%fa, Ha⟩, Hs0, Hs1, Hs2, HO⟩ HK
  have hO1 : ∀ g, (O + oxV d (cV L)) g none = 0 := fun g => by
    unfold oxV; rw [Pi.add_apply, Finsupp.add_apply, hO g, Pi.add_apply, Finsupp.add_apply, oxS_none, oxS_none, Nat.add_zero]
  ihave Hmw1 := (show levAts (K (F := F)).L (K (F := F)).lev ⊢ Transfers.MayWaits (thrV d L) (default : HIx 2) (O + oxV d (cV L)) from
    (K (F := F)).mayWaits_none (thr := thrV d L) hO1) $$ Hlv
  ihave Hsh := (Entails.of_eq (pts_shRowSl (F := F) d L _ _).symm) $$ Hsh
  rw [Prog.bind_assoc]
  iapply (loop1 (F := F) d L fh) $$ Hh
  iintro %a1 Hh
  sl_exec
  have hfi : ∀ j : (L1 20000).Idx, ((tb d).ds ((dsSl L).view.emb j)).toNat = bins (tb d) (jN L) (0 + (j 0).val) := fun j => by
    have hj : (j 0).val < 20000 := (j 0).isLt
    unfold bins; rw [Nat.zero_add, if_pos hj]
    exact ent_eq _ _ _ (emb_dsSl L j)
  rw [Prog.bind_assoc]
  iapply (loop2 (F := F) d L (bins (tb d) (jN L)) 0 (fun j => (tb d).ds ((dsSl L).view.emb j)) hfi (bins_lt (hk d) _)) $$ [Hh Hi]
  · isplitl [Hh]; · iexact Hh
    iapply (Entails.of_eq (whole_in (F := F) d L cc0_scratch1 fi _)); iexact Hi
  iintro %a2 ⟨Hh, Hi⟩
  sl_exec
  have hfl : ∀ j : (L1 20000).Idx, ((tb d).sr ((srSl L).view.emb j)).toNat < 10000 := fun j => (hk d).sr _
  have hfi' : ∀ j : (L1 20000).Idx, ((tb d).sr ((srSl L).view.emb j)).toNat + 10240 = bins (tb d) (jN L) (20000 + (j 0).val) := fun j => by
    unfold bins; rw [if_neg (by omega), Nat.add_sub_cancel_left]
    exact congrArg (· + 10240) (ent_eq _ _ _ (emb_srSl L j))
  rw [Prog.bind_assoc]
  iapply (loop3 (F := F) d L (bins (tb d) (jN L)) 20000 (fun j => (tb d).sr ((srSl L).view.emb j)) hfl hfi' (bins_lt (hk d) _)) $$ [Hh Hi]
  · isplitl [Hh]; · iexact Hh
    iapply (Entails.of_eq (whole_in (F := F) d L cc0_scratch1 _ _)); iexact Hi
  iintro %a3 ⟨Hh, Hi⟩
  sl_exec
  -- the row deposited
  ihave Hrow := (Entails.of_eq (row_in (F := F) d L tb fsh (fun x => tally (bins (tb d) (jN L)) (20000 + 20000) (x 0).val) (fun _ => rfl))) $$ [Hsh]
  · iexact Hsh
  imod (deposit tb d (cV L) (jV L) (ν (dkey d (cV L) (jV L)))) $$ [Hatd Hrow] with #Hdep
  · isplitr
    · iapply (SparseCore.ent (bigSep_elim (Φ := fun k : Fin 16 => (inv (ν (dkey d (cV L) k)) (bank tb d (cV L) k) : sProp 𝕄)) (Finset.mem_univ (jV L)))); iexact Hbk
    isplitl [Hatd]; · iexact Hatd
    iexact Hrow
  -- the first meeting
  have hO2 : O + oxV d (cV L) = O + oxS d (cV L) 1 + oxS d (cV L) 0 := by unfold oxV; rw [add_assoc]
  ihave HO := (Entails.of_eq (congrArg (fun X => owes (thrV d L) X _) hO2)) $$ HO
  rw [Prog.bind_assoc]
  iapply (meet_first tb d (cV L) (jV L) κ (O + oxS d (cV L) 1) _) $$ [HO Htoks Hcred Hat]
  · isplitr; · iexact Hinv
    isplitr; · iexact Hrch
    isplitl [HO]; · iexact HO
    isplitl [Htoks]; · iexact Htoks
    isplitr; · iexact Hdep
    isplitl [Hcred]; · iexact Hcred
    isplitl [Hat]; · iexact Hat
    iapply (may_first (F := F) d L O hOlev); iexact Hlv
  iintro %S ⟨%hS, HO, Hat, #Hdeps, Hpay⟩
  imod (takes tb d (cV L) (jV L) ν) $$ [Htk] with Hps
  · isplitr; · iexact Hbk
    isplitr; · iexact Hdeps
    iexact Htk
  rw [Prog.bind_assoc]
  iapply (loop4 (F := F) d L fa) $$ Ha
  iintro %a4 Ha
  ispecialize HK $$ %_ %S [HO Hat Hpay Hps Hsr Hds Hh Hi Ha Hs0 Hs1 Hs2]
  · isplitr; · ipureintro; exact hS
    isplitl [HO]
    · iexists _; isplitr; swap; · iexact HO
      ipureintro; intro p hp
      rcases Finset.mem_insert.mp hp with hp | hp; · exact .inr (.inr ⟨0, hp ▸ rfl⟩)
      rcases Finset.mem_insert.mp hp with hp | hp; · exact .inr (.inl (hp ▸ rfl))
      rcases Finset.mem_insert.mp hp with hp | hp; · exact .inr (.inl (hp ▸ rfl))
      rcases Finset.mem_insert.mp hp with hp | hp; · exact .inr (.inl (hp ▸ rfl))
      exact .inl hp
    isplitl [Hat]; · iexact Hat
    isplitr; · iexact Hdeps
    isplitl [Hpay]; · iexact Hpay
    isplitl [Hps]; · iexact Hps
    isplitl [Hsr]; · iexact Hsr
    isplitl [Hds]; · iexact Hds
    isplitl [Hh]; · iexists _; iexact Hh
    isplitl [Hi]; · iexists _; iexact Hi
    isplitl [Ha]; · iexact Ha
    isplitl [Hs0]; · iexact Hs0
    isplitl [Hs1]; · iexact Hs1
    iexact Hs2
  iexact HK

end

end Cert.Proof.KI

end
-- ==== Proof.KI.TileB.lean ====
/- The second half of the task of a tile: summing its piece of every row, the second meeting and the look-up. -/
module

public import proofs.«01_k».proof.Proof.KI.TileA

@[expose] public section

noncomputable section

namespace Cert.Proof.KI

open Cert.KernelIdeal Cert.KernelIdeal.Gen Cert.Proof.Vals

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

attribute [local instance] blocks

local notation "𝕄" => MT nD τ sig (HIx 2) (Elt F) ℕ UU ℕ

section
variable [FloatOps F] (tb : Dev nD → Tabs) (d : Dev nD) (L : grid0.Coords)
variable {α : Type} {Q : α → sProp (MT nD τ sig (HIx 2) (Elt F) ℕ UU ℕ)}

/-- After `t` trips of the summation: the first `t` tables summed over the tile's bins, and every piece still there. -/
def inv5 (O : CellTallies nD τ sig (HIx 2)) (W : Waits sig (HIx 2)) (t : ℕ) : sProp 𝕄 :=
  iprop(Transfers.MayWaits (thrV d L) (default : HIx 2) O ∗ (∃ W', ⌜∀ p ∈ W', p ∈ W ∨ p.2 = none ∨ ∃ b, p.2 = some b⌝ ∗ owes (thrV d L) O W')
    ∗ semVal (dcell d L cc0_scoped3) 0 ∗ (∃ f, sPts d L f) ∗ aPts d L (fun x => part (tb d) t (1280 * jN L + (x 0).val))
    ∗ bigSep Finset.univ fun k : Fin 16 => piece tb d (cV L) k (jV L))

/-- What a copied piece of a row reads. -/
theorem piece_read (t : Fin k0_t5_loop.trips) :
    (pcSl L t).view.read (Elt F) (shH tb d (cV L)) = fun x : (L1 1280).Idx => hist (tb d) t.val (1280 * jN L + (x 0).val) := by
  funext x
  have e := emb_pcSl L t x
  have hx : (x 0).val < 1280 := (x 0).isLt
  have hj : jN L < 16 := (jV L).isLt
  show hist (tb d) ((((pcSl L t).view.emb x : (L1 327680).Idx) 0).val / 20480) ((((pcSl L t).view.emb x : (L1 327680).Idx) 0).val % 20480) = _
  rw [e, Nat.add_assoc, Nat.mul_add_div (by decide), Nat.div_eq_of_lt (by omega), Nat.add_zero, Nat.mul_add_mod, Nat.mod_eq_of_lt (by omega)]

set_option maxHeartbeats 4000000 in
/-- The tile sums its piece of every row. -/
theorem loop5 (O : CellTallies nD τ sig (HIx 2)) (W : Waits sig (HIx 2)) {k : BitVec 32 → Prog (TpuEff nD τ sig (Elt F) Λ₀ (.scVector (cV L) (jV L))) α} :
    inv5 tb d L O W 0 ⊢ iprop((∀ acc, inv5 tb d L O W 16 -∗ wp frame (wpE (defs₀ (F := F)) 𝒱₀ (thrV d L) none) Set.univ (k acc) Q)
      -∗ wp frame (wpE (defs₀ (F := F)) 𝒱₀ (thrV d L) none) Set.univ (Scf.Loop.for k0_t5_loop k0_t5_ok 0#32 (t5B L) >>= k) Q) := by
  iintro H HK
  sl_for (fun t (_ : BitVec 32) => inv5 tb d L O W t) $$ [H]
  case region =>
    intro t acc
    have ht : t.val < 16 := lt_of_lt_of_le t.isLt (by decide +kernel)
    unfold inv5
    iintro ⟨#Hmw, ⟨%W', %hW, HO⟩, Hs3, ⟨%fs, Hs⟩, Ha, Hps⟩
    ihave Hps := (Entails.of_eq (SparseCore.bigSep_erase' (Finset.mem_univ (⟨t.val, ht⟩ : Fin 16)) (Φ := fun k : Fin 16 => piece tb d (cV L) k (jV L)))) $$ Hps
    icases Hps with ⟨Hp, Hps⟩
    ihave Hp := (Entails.of_eq (pts_pcSl (F := F) d L t fullShare (shH tb d (cV L))).symm) $$ Hp
    sl_exec
    iapply (loop6 (F := F) d L (fun x => part (tb d) t.val (1280 * jN L + (x 0).val)) (fun x => hist (tb d) t.val (1280 * jN L + (x 0).val))) $$ [Ha Hs]
    · isplitl [Ha]; · iexact Ha
      iapply (Entails.of_eq ((whole_in (F := F) d L cc0_scratch5 fs _).trans (congrArg (fun g => sPts (F := F) d L g) (piece_read (F := F) tb d L t)))); iexact Hs
    iintro %a6 ⟨Ha, Hs⟩
    rw [wp_pure]; imodintro
    isplitr; · iexact Hmw
    isplitl [HO]
    · iexists _; isplitr; swap; · iexact HO
      ipureintro; intro p hp
      rcases Finset.mem_insert.mp hp with hp | hp; · exact .inr (.inl (hp ▸ rfl))
      exact hW p hp
    isplitl [Hs3]; · iexact Hs3
    isplitl [Hs]; · iexists _; iexact Hs
    isplitl [Ha]; · iexact Ha
    iapply (Entails.of_eq (SparseCore.bigSep_erase' (Finset.mem_univ (⟨t.val, ht⟩ : Fin 16)) (Φ := fun k : Fin 16 => piece tb d (cV L) k (jV L))).symm)
    isplitl [Hp]
    · iapply (Entails.of_eq (pts_pcSl (F := F) d L t fullShare (shH tb d (cV L)))); iexact Hp
    iexact Hps
  · iexact H
  iintro %acc HI
  have h16 : Scf.trips k0_t5_loop.lb k0_t5_loop.ub k0_t5_loop.st = 16 := by decide +kernel
  ihave HI := (Entails.of_eq (congrArg (inv5 tb d L O W) h16)) $$ HI
  ispecialize HK $$ %acc HI
  iexact HK

/-- Named members of a separating conjunction, and the rest of it. -/
theorem sep_list {I : Type} [DecidableEq I] (Φ : I → sProp (MT nD τ sig (HIx 2) (Elt F) ℕ UU ℕ)) : ∀ (l : List I) (S : Finset I), l.Nodup → (∀ a ∈ l, a ∈ S) →
    bigSep S Φ = l.foldr (fun a R => iprop(Φ a ∗ R)) (bigSep (S \ l.toFinset) Φ)
  | [], S, _, _ => by rw [List.toFinset_nil, Finset.sdiff_empty]; rfl
  | a :: l, S, hn, hm => by
    rw [SparseCore.bigSep_erase' (hm a (List.mem_cons_self ..)), sep_list Φ l (S.erase a) (List.nodup_cons.mp hn).2
      (fun b hb => Finset.mem_erase.mpr ⟨fun e => (List.nodup_cons.mp hn).1 (e ▸ hb), hm b (List.mem_cons_of_mem _ hb)⟩), List.toFinset_cons,
      show S.erase a \ l.toFinset = S \ insert a l.toFinset by ext x; simp only [Finset.mem_sdiff, Finset.mem_erase, Finset.mem_insert]; tauto]
    rfl

abbrev semsL : List (SemLoc sig) := [.dma cc0_scoped0.sem, .dma cc0_scoped1.sem, .dma cc0_scoped2.sem, .dma cc0_scoped3.sem, .dma cc0_scoped4.sem, .dma cc0_scoped5.sem, .dma cc0_scoped6.sem, .dma cc0_scoped7.sem, .dma cc0_scoped8.sem]
abbrev bufsL : List (Ref sig .scVector) := [cc0_scratch0, cc0_scratch1, cc0_scratch2, cc0_scratch3, cc0_scratch4, cc0_scratch5, cc0_scratch6]

omit [FloatOps F] in
theorem bufs_nodup : bufsL.Nodup := by decide

/-- The task's transfer semaphores among the tile's own, and the rest of those. -/
theorem ownSems0_V :
    (ownSems0 (thrV d L) : sProp 𝕄)
      = iprop(semVal (dcell d L cc0_scoped0) 0 ∗ semVal (dcell d L cc0_scoped1) 0 ∗ semVal (dcell d L cc0_scoped2) 0 ∗ semVal (dcell d L cc0_scoped3) 0 ∗ semVal (dcell d L cc0_scoped4) 0 ∗ semVal (dcell d L cc0_scoped5) 0 ∗ semVal (dcell d L cc0_scoped6) 0 ∗ semVal (dcell d L cc0_scoped7) 0 ∗ semVal (dcell d L cc0_scoped8) 0 ∗ bigSep (ownCells (thrV d L) \ (semsL.map fun s => ((thrV d L, s) : GSem nD τ sig)).toFinset) fun g => semVal g 0) := by
  unfold SparseCore.Cfg.ownSems0
  rw [sep_list (fun g : GSem nD τ sig => (semVal g 0 : sProp 𝕄)) (semsL.map fun s => ((thrV d L, s) : GSem nD τ sig)) (ownCells (thrV d L))]
  · simp only [semsL, List.map_cons, List.map_nil, List.foldr_cons, List.foldr_nil]
  · exact List.Nodup.map (fun a b e => (Prod.mk.inj e).2) (by decide)
  · intro g hg
    obtain ⟨s, hs, rfl⟩ := List.mem_map.mp hg
    exact mem_ownCells.mpr ⟨rfl, (show ∀ s ∈ semsL, s.isScoped .scVector = true by decide) s hs⟩

/-- The task's buffers among the tile's own, and the rest of those. -/
theorem ownBufs_V :
    (ownBufs (thrV d L) : sProp 𝕄)
      = iprop((∃ f, hPts d L f) ∗ (∃ f, iPts d L f) ∗ (∃ f, tPts d L f) ∗ (∃ f, ePts d L f) ∗ (∃ f, bPts d L f) ∗ (∃ f, sPts d L f) ∗ (∃ f, aPts d L f)
          ∗ bigSep (ownRefs (τ := τ) (.scVector (cV L) (jV L)) \ (bufsL.map fun b => (Proc.scVector (cV L) (jV L)).devRef b).toFinset)
              fun b => iprop(∃ f, ((d, b) : Loc nD τ sig) ↦{fullShare} f)) := by
  unfold SparseCore.Cfg.ownBufs
  refine (sep_list (fun b : DevRef τ sig => (iprop(∃ f, ((d, b) : Loc nD τ sig) ↦{fullShare} f) : sProp 𝕄)) (bufsL.map fun b => (Proc.scVector (cV L) (jV L)).devRef b) (ownRefs (τ := τ) (.scVector (cV L) (jV L))) ?_ ?_).trans rfl
  · exact List.Nodup.map (Proc.devRef_injective _) bufs_nodup
  · intro g hg
    obtain ⟨s, hs, rfl⟩ := List.mem_map.mp hg
    simp only [List.mem_cons, List.not_mem_nil] at hs
    rcases hs with rfl | rfl | rfl | rfl | rfl | rfl | rfl | h <;> first | exact SparseCore.Cfg.mem_ownRefs_of_owner rfl | exact h.elim

/-- What the summed table's row reads. -/
theorem sums_read : (r0Sl).view.read (Elt F) (shR tb d (cV L)) = fun x : (L1 20480).Idx => tot (tb d) (x 0).val := by
  funext x
  show tot (tb d) (((r0Sl).view.emb x : (L1 327680).Idx) 0).val = _
  rw [emb_r0Sl, Nat.zero_add]

/-- What the tile looks up is its part of the result. -/
theorem look_res (hft : ∀ j, ((tb d).tl ((tlSl L).view.emb j)).toNat < 10000) (hfe : ∀ j, ((tb d).hd ((hdSl L).view.emb j)).toNat < 10000) (x : (L1 10000).Idx) :
    look (F := F) (fun x => tot (tb d) (x 0).val) (fun j => (tb d).tl ((tlSl L).view.emb j)) (fun j => (tb d).hd ((hdSl L).view.emb j)) hft hfe x
      = res (tb d) (160000 * cN L + 10000 * jN L + (x 0).val) := by
  show FloatOps.mulf (FloatOps.addf (tot (tb d) ((tb d).tl ((tlSl L).view.emb x)).toNat) (tot (tb d) (((tb d).hd ((hdSl L).view.emb x)).toNat + 10240))) halfF = _
  unfold res
  rw [ent_eq _ _ _ (emb_tlSl L x), ent_eq _ _ _ (emb_hdSl L x)]

/-- The summed pieces, each a share, are the row at that share. -/
theorem sums_join (c : Fin τ.nSC) (j : Fin 16) : (bigSep Finset.univ fun k : Fin 16 => sumPiece tb d c k j)
    = (shLoc d c ↦[seg 327680 0 20480]{deal 16 fullShare j} shR tb d c : sProp 𝕄) := by
  rw [show (20480 : ℕ) = 1280 * 16 from rfl, sh_segs]
  exact bigSep_congr fun k _ => by rw [Nat.zero_add]

set_option maxHeartbeats 4000000 in
/-- The task of tile `(L 0, L 1)`. -/
theorem tile_body (hF : (K (F := F)).Facts) (hk : ∀ d, (tb d).Ok) (m : (ℓ : Loc nD τ sig) → Buf (Elt F) ℓ) (O : CellTallies nD τ sig (HIx 2)) (W : Waits sig (HIx 2)) (hO : ∀ g, O g none = 0)
    (hOlev : ∀ g ι, 0 < O g ι → 8 * (1 : Fin 2).val + 6 ≤ (K (F := F)).lev g ι) :
    iprop(levAts (K (F := F)).L (K (F := F)).lev ∗ bkit tb d (cV L) (jV L)
        ∗ (tabs tb d (tq (L 0) (jV L)) ∗ oPart d (L 0) (jV L) (m (oLoc d)) ∗ ∃ f, shRow d (cV L) (jV L) f)
        ∗ scopedBufs (thrV d L) ∗ scopedSems0 (thrV d L) ∗ owes (thrV d L) (O + oxV d (cV L)) W)
      ⊢ wp frame (wpE (defs₀ (F := F)) 𝒱₀ (thrV d L) none) Set.univ
          (cc0__sds_kernel (F := F) L hdV (Memref.isWhole_whole _) tlV (Memref.isWhole_whole _) srV (Memref.isWhole_whole _) dsV (Memref.isWhole_whole _) oV (Memref.isWhole_whole _) hV (Memref.isWhole_whole _) iV (Memref.isWhole_whole _) tV (Memref.isWhole_whole _) eV (Memref.isWhole_whole _) bV (Memref.isWhole_whole _) sV (Memref.isWhole_whole _) aV (Memref.isWhole_whole _) shV (Memref.isWhole_whole _) cc0_scoped0 cc0_scoped1 cc0_scoped2 cc0_scoped3 cc0_scoped4 cc0_scoped5 cc0_scoped6 cc0_scoped7 cc0_scoped8)
          fun _ => iprop(((tabs tb d (tq (L 0) (jV L)) ∗ oPart d (L 0) (jV L) (oR tb d) ∗ shEnd tb d (cV L) (jV L)) ∗ semVal (bcell d (cV L) (jV L)) 0)
            ∗ scopedBufs (thrV d L) ∗ scopedSems0 (thrV d L)
            ∗ ∃ W', ⌜∀ p ∈ W', p ∈ W ∨ p.2 = none ∨ ∃ b, p.2 = some b⌝ ∗ owes (thrV d L) O W') := by
  simp only [cc0__sds_kernel_eq_skeleton]; unfold cc0__sds_kernel_skel
  rw [(K (F := F)).scopedBufs_V hF d (cV L) (jV L), SparseCore.Cfg.scopedSems0_V (Val := Elt F) d (cV L) (jV L), ownSems0_V, ownBufs_V]
  unfold bkit
  iintro ⟨#Hlv, ⟨⟨%κ, #Hinv⟩, #Hrch, Htok1, Htok2, ⟨%ν, #Hbk⟩, Htk, Hatd, Hat, Hcr1, Hcr2⟩, ⟨⟨Hhd, Htl, Hsr, Hds⟩, Ho, Hsh⟩,
    ⟨Hh, Hi, ⟨%ft, Ht⟩, ⟨%fe, He⟩, ⟨%fb, Hb⟩, Hs, Ha, Hbufs⟩, ⟨Hs0, Hs1, Hs2, Hs3, Hs4, Hs5, Hs6, Hs7, Hs8, Hsems⟩, HO⟩
  have hO1 : ∀ g, (O + oxS d (cV L) 1) g none = 0 := fun g => by
    rw [Pi.add_apply, Finsupp.add_apply, hO g, oxS_none]
  ihave Hmw1 := (show levAts (K (F := F)).L (K (F := F)).lev ⊢ Transfers.MayWaits (thrV d L) (default : HIx 2) (O + oxS d (cV L) 1) from
    (K (F := F)).mayWaits_none (thr := thrV d L) hO1) $$ Hlv
  ihave Hmw2 := (show levAts (K (F := F)).L (K (F := F)).lev ⊢ Transfers.MayWaits (thrV d L) (default : HIx 2) O from
    (K (F := F)).mayWaits_none (thr := thrV d L) hO) $$ Hlv
  iapply (part1_run (F := F) tb d L hF hk κ ν O W hO hOlev) $$ [Htok1 Htk Hatd Hat Hcr1 Hsr Hds Hsh Hh Hi Ha Hs0 Hs1 Hs2 HO]
  · isplitr; · iexact Hlv
    isplitr; · iexact Hinv
    isplitr; · iexact Hrch
    isplitl [Htok1]; · iexact Htok1
    isplitr; · iexact Hbk
    isplitl [Htk]; · iexact Htk
    isplitl [Hatd]; · iexact Hatd
    isplitl [Hat]; · iexact Hat
    isplitl [Hcr1]; · iexact Hcr1
    isplitl [Hsr]; · iexact Hsr
    isplitl [Hds]; · iexact Hds
    isplitl [Hsh]; · iexact Hsh
    isplitl [Hh]; · iexact Hh
    isplitl [Hi]; · iexact Hi
    isplitl [Ha]; · iexact Ha
    isplitl [Hs0]; · iexact Hs0
    isplitl [Hs1]; · iexact Hs1
    isplitl [Hs2]; · iexact Hs2
    iexact HO
  iintro %a %S ⟨%hS, HO, Hat, #Hdeps, Hpay, Hps, Hsr, Hds, ⟨%fh, Hh⟩, Hi, Ha, Hs0, Hs1, Hs2⟩
  iapply (loop5 tb d L (O + oxS d (cV L) 1) W) $$ [HO Hs3 Hs Ha Hps]
  · unfold inv5
    isplitr; · iexact Hmw1
    isplitl [HO]; · iexact HO
    isplitl [Hs3]; · iexact Hs3
    isplitl [Hs]; · iexact Hs
    isplitl [Ha]; · iexact Ha
    iexact Hps
  iintro %a5 HI
  unfold inv5
  icases HI with ⟨-, ⟨%W1, %hW1, HO⟩, Hs3, Hs, Ha, Hps⟩
  -- the sums into the first row
  ihave Hps := (Entails.of_eq (SparseCore.bigSep_erase' (Finset.mem_univ (0 : Fin 16)) (Φ := fun k : Fin 16 => piece tb d (cV L) k (jV L)))) $$ Hps
  icases Hps with ⟨Hp0, Hps⟩
  ihave Hp0 := (Entails.of_eq ((congrArg (fun x => (shLoc d (cV L) ↦[seg 327680 x 1280]{fullShare} shH tb d (cV L) : sProp 𝕄)) (show 20480 * (0 : Fin 16).val + 1280 * (jV L).val = 1280 * jN L from Nat.zero_add _)).trans (pts_p0Sl (F := F) d L fullShare (shH tb d (cV L))).symm)) $$ Hp0
  sl_exec
  ihave Hp0 := (Entails.of_eq (sum_in (F := F) d L tb (shH tb d (cV L)) (fun x => part (tb d) 16 (1280 * jN L + (x 0).val)) (fun _ => rfl))) $$ [Hp0]
  · iexact Hp0
  -- the second meeting
  iapply (meet_second tb d (cV L) (jV L) κ S hS O _) $$ [HO Htok2 Hp0 Hcr2 Hat Hpay]
  · isplitr; · iexact Hinv
    isplitr; · iexact Hrch
    isplitl [HO]; · iexact HO
    isplitl [Htok2]; · iexact Htok2
    isplitr; · iexact Hdeps
    isplitl [Hp0]; · iexact Hp0
    isplitl [Hcr2]; · iexact Hcr2
    isplitl [Hat]; · iexact Hat
    isplitl [Hpay]; · iexact Hpay
    iapply (may_second (F := F) d L O hOlev); iexact Hlv
  iintro ⟨HO, Hbar, Hsum⟩
  ihave Hsum := (Entails.of_eq ((sums_join tb d (cV L) (jV L)).trans (pts_r0Sl (F := F) d L _ (shR tb d (cV L))).symm)) $$ Hsum
  ihave Htl := (show (tlLoc d ↦{tq (L 0) (jV L)} (tb d).tl : sProp 𝕄) ⊢ tlPts d L (tq (L 0) (jV L)) (tb d).tl from Entails.refl _) $$ Htl
  ihave Hhd := (show (hdLoc d ↦{tq (L 0) (jV L)} (tb d).hd : sProp 𝕄) ⊢ hdPts d L (tq (L 0) (jV L)) (tb d).hd from Entails.refl _) $$ Hhd
  ihave Ho := (Entails.of_eq (pts_oSl (F := F) d L _ (m (oLoc d))).symm) $$ Ho
  sl_exec
  have hft : ∀ j, ((tb d).tl ((tlSl L).view.emb j)).toNat < 10000 := fun j => (hk d).tl _
  have hfe : ∀ j, ((tb d).hd ((hdSl L).view.emb j)).toNat < 10000 := fun j => (hk d).hd _
  iapply (loop7 (F := F) d L (fun x => tot (tb d) (x 0).val) (fun j => (tb d).tl ((tlSl L).view.emb j)) (fun j => (tb d).hd ((hdSl L).view.emb j)) hft hfe fb) $$ [Hb Hh Ht He]
  · isplitl [Hb]; · iexact Hb
    isplitl [Hh]
    · iapply (Entails.of_eq ((whole_in (F := F) d L cc0_scratch0 fh _).trans (congrArg (fun g => hPts (F := F) d L g) (sums_read tb d L)))); iexact Hh
    isplitl [Ht]
    · iapply (Entails.of_eq (whole_in (F := F) d L cc0_scratch2 ft _)); iexact Ht
    iapply (Entails.of_eq (whole_in (F := F) d L cc0_scratch3 fe _)); iexact He
  iintro %a7 ⟨Hb, Hh, Ht, He⟩
  sl_exec
  ihave Ho := (Entails.of_eq (out_in (F := F) d L tb (m (oLoc d)) _ (look_res tb d L hft hfe))) $$ [Ho]
  · iexact Ho
  sl_step
  isplitl [Hhd Htl Hsr Hds Ho Hps Hsum Hbar]
  · isplitr [Hbar]; swap; · iexact Hbar
    isplitl [Hhd Htl Hsr Hds]
    · isplitl [Hhd]; · iexact Hhd
      isplitl [Htl]; · iexact Htl
      isplitl [Hsr]; · iexact Hsr
      iexact Hds
    isplitl [Ho]; · iexact Ho
    isplitl [Hps]; · iexact Hps
    iapply (Entails.of_eq (pts_r0Sl (F := F) d L _ (shR tb d (cV L)))); iexact Hsum
  isplitl [Hh Hi Ht He Hb Hs Ha Hbufs]
  · isplitl [Hh]; · iexists _; iexact Hh
    isplitl [Hi]; · iexact Hi
    isplitl [Ht]; · iexists _; iexact Ht
    isplitl [He]; · iexists _; iexact He
    isplitl [Hb]; · iexists _; iexact Hb
    isplitl [Hs]; · iexact Hs
    isplitl [Ha]; · iexists _; iexact Ha
    iexact Hbufs
  isplitl [Hs0 Hs1 Hs2 Hs3 Hs4 Hs5 Hs6 Hs7 Hs8 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inr ⟨1, hp ▸ rfl⟩)
  rcases Finset.mem_insert.mp hp with hp | hp; · exact .inr (.inl (hp ▸ rfl))
  exact hW1 p hp

end

end Cert.Proof.KI

end
-- ==== Proof.KI.Split.lean ====
/- The obligation of a tile, and how a SparseCore's operands deal to its tiles and gather from them. -/
module

public import proofs.«01_k».proof.Proof.KI.TileB

@[expose] public section

noncomputable section

namespace Cert.Proof.KI

open Cert.KernelIdeal Cert.KernelIdeal.Gen Cert.Proof.Vals

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

attribute [local instance] blocks

local notation "𝕄" => MT nD τ sig (HIx 2) (Elt F) ℕ UU ℕ

section
variable [FloatOps F] (tb : Dev nD → Tabs) (m : (ℓ : Loc nD τ sig) → Buf (Elt F) ℓ)

/-! ## The obligation of a tile -/

/-- The coordinates of a task of the grid. -/
def coordsAt (c : Fin (grid0.bound 0)) (s : Fin (grid0.bound 1)) : grid0.Coords :=
  fun | 0 => c | 1 => s | ⟨_ + 2, h⟩ => absurd h (Nat.not_lt.2 (Nat.le_add_left _ _))

theorem defs₀_vec (c : Fin τ.nSC) (s : Fin τ.nSub) :
    defs₀ (F := F) (.scVector c s) 0 ()
      = SparseCore.onTile hcore0 hsub0 (fun c s => cc0__sds_kernel (F := F) (coordsAt c s) hdV (Memref.isWhole_whole _) tlV (Memref.isWhole_whole _) srV (Memref.isWhole_whole _) dsV (Memref.isWhole_whole _) oV (Memref.isWhole_whole _) hV (Memref.isWhole_whole _) iV (Memref.isWhole_whole _) tV (Memref.isWhole_whole _) eV (Memref.isWhole_whole _) bV (Memref.isWhole_whole _) sV (Memref.isWhole_whole _) aV (Memref.isWhole_whole _) shV (Memref.isWhole_whole _) cc0_scoped0 cc0_scoped1 cc0_scoped2 cc0_scoped3 cc0_scoped4 cc0_scoped5 cc0_scoped6 cc0_scoped7 cc0_scoped8) ⟨⟩ c s := rfl

set_option maxRecDepth 16384 in
/-- Every task of the grid does what the handshake promises. -/
theorem tileObl (hk : ∀ d, (tb d).Ok) (hF : (K (F := F)).Facts) : (K (F := F)).TileObl (D (F := F)) 𝒱 (P tb m) v₀ 0 := by
  intro d c i O W hO hOlev _
  have hci : ((K (F := F)).core 0 c).val < grid0.bound 0 ∧ ((K (F := F)).sub 0 i).val < grid0.bound 1 := ⟨c.isLt, i.isLt⟩
  rw [show (P tb m).ox 0 (V d ((K (F := F)).core 0 c) ((K (F := F)).sub 0 i)) = oxV d ((K (F := F)).core 0 c) from rfl,
    show (P tb m).x 0 (V d ((K (F := F)).core 0 c) ((K (F := F)).sub 0 i)) = bkit tb d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vec]; simp only [SparseCore.onTile, hci, and_self, ↓reduceDIte]
  exact tile_body tb d (coordsAt ⟨_, hci.1⟩ ⟨_, hci.2⟩) hF hk m O W hO hOlev

/-! ## Dealing a SparseCore's operands to its tiles, and gathering -/

/-- The shared scratch is among the sequencer's own buffers. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  exact SparseCore.bigSep_erase' ((mem_ownRefs (p := Proc.scScalar c) (b := shRef c)).mpr rfl)

/-- The shared scratch whole is its sixteen rows. -/
theorem sh_rows (d : Dev nD) (c : Fin τ.nSC) (f : Buf (Elt F) (shLoc d c)) :
    (shLoc d c ↦{fullShare} f : sProp 𝕄) = bigSep Finset.univ fun i : Fin 16 => shRow d c i f := by
  show (shLoc d c ↦[(Finset.univ : Finset (L1 327680).Idx)]{fullShare} f) = _
  rw [← seg_univ 327680]
  refine (sh_segs (lo := 0) (len := 20480) (k := 16) d c fullShare f).trans (bigSep_congr fun i _ => ?_)
  rw [Nat.zero_add]

/-- A SparseCore's half of the result is its tiles' parts. -/
theorem o_parts (d : Dev nD) (c : Fin 2) (f : Buf (Elt F) (oLoc d)) : (oHalf d c f : sProp 𝕄) = bigSep Finset.univ fun i : Fin 16 => oPart d c i f :=
  o_segs (lo := 160000 * c.val) (len := 10000) (k := 16) d fullShare f

/-- A SparseCore's share of the lists is its tiles' shares. -/
theorem tabs_deal (d : Dev nD) (c : Fin 2) : (tabs tb d (cq c) : sProp 𝕄) = bigSep Finset.univ fun i : Fin 16 => tabs tb d (tq c i) := by
  unfold tabs
  rw [bigSep_sep', bigSep_sep', bigSep_sep', ← pts_deal 15, ← pts_deal 15, ← pts_deal 15, ← pts_deal 15]

omit [FloatOps F] in
/-- Two nested conjunctions swap. -/
theorem bigSep_erase_comm {I J : Type} [Fintype J] [DecidableEq I] [DecidableEq J] (s : Finset I) (Φ : J → I → sProp (MT nD τ sig (HIx 2) (Elt F) ℕ UU ℕ)) :
    (bigSep Finset.univ fun j : J => bigSep s fun k => Φ j k) = bigSep s fun k => bigSep Finset.univ fun j : J => Φ j k := by
  induction s using Finset.induction_on with
  | empty => simp only [bigSep_empty]; exact bigSep_emp' _
  | insert a s ha ih => simp only [SparseCore.bigSep_insert' ha]; rw [bigSep_sep', ih]

/-- The pieces of the rows above the first are those rows. -/
theorem rows_join (d : Dev nD) (c : Fin τ.nSC) :
    (bigSep (Finset.univ.erase (0 : Fin 16)) fun k => bigSep Finset.univ fun j : Fin 16 => piece tb d c k j)
      ⊢ (bigSep (Finset.univ.erase (0 : Fin 16)) fun k => shLoc d c ↦[seg 327680 (0 + 20480 * k.val) 20480]{fullShare} (if k = 0 then shR tb d c else shH tb d c) : sProp 𝕄) := by
  refine SparseCore.ent (bigSep_mono fun k hk => ?_)
  rw [if_neg (Finset.mem_erase.mp hk).1, Nat.zero_add]
  exact Entails.of_eq (sh_segs (len := 1280) (k := 16) d c fullShare _).symm

/-- What the tiles end with of the shared scratch is it whole. -/
theorem sh_join (d : Dev nD) (c : Fin τ.nSC) : (bigSep Finset.univ fun j : Fin 16 => shEnd tb d c j) ⊢ (iprop(∃ f, shLoc d c ↦{fullShare} f) : sProp 𝕄) := by
  unfold shEnd
  rw [bigSep_sep', ← pts_deal 15, bigSep_erase_comm]
  iintro ⟨Hp, H0⟩
  ihave H := (pointsTo_biUnion_join (ℓ := shLoc d c) (q := fullShare) Finset.univ (fun k : Fin 16 => seg 327680 (0 + 20480 * k.val) 20480)
    (fun k => if k = 0 then shR tb d c else shH tb d c) (shR tb d c) segs_disjoint) $$ [Hp H0]
  · iapply (Entails.of_eq (SparseCore.bigSep_erase' (Finset.mem_univ (0 : Fin 16))).symm)
    isplitl [H0]; · iexact H0
    iapply (SparseCore.ent (rows_join tb d c)); iexact Hp
  icases H with ⟨%g, -, Hg⟩
  iexists g
  iapply (Entails.of_eq (congrArg (fun I => (shLoc d c ↦[I]{fullShare} g : sProp 𝕄)) ((seg_biUnion (n := 327680) (lo := 0) (len := 20480) (k := 16)).trans (seg_univ 327680)))); iexact Hg

omit [FloatOps F] in
/-- Three families held over one index are held one by one. -/
theorem three {I : Type} [DecidableEq I] (s : Finset I) (A B C : I → sProp (MT nD τ sig (HIx 2) (Elt F) ℕ UU ℕ)) :
    (bigSep s fun i => iprop(A i ∗ B i ∗ C i)) = iprop(bigSep s A ∗ bigSep s B ∗ bigSep s C) := by
  rw [bigSep_sep', bigSep_sep']

omit [FloatOps F] in
/-- Three families and a fourth held over one index are held one by one. -/
theorem four {I : Type} [DecidableEq I] (s : Finset I) (A B C E : I → sProp (MT nD τ sig (HIx 2) (Elt F) ℕ UU ℕ)) :
    (bigSep s fun i => iprop((A i ∗ B i ∗ C i) ∗ E i)) = iprop((bigSep s A ∗ bigSep s B ∗ bigSep s C) ∗ bigSep s E) := by
  rw [bigSep_sep' s, three]

/-- A SparseCore's operands deal to its tiles, and its results gather from theirs. -/
theorem vecSplit : (K (F := F)).VecSplit (P tb m) 0 := by
  intro d c
  show iprop(iprop(tabs tb d (cq c) ∗ oHalf d c (m (oLoc d))) ∗ ownBufs (S d (coreOf (F := F) c))) ⊢ |={Set.univ}=> iprop(
      (bigSep Finset.univ fun i : Fin 16 => iprop(tabs tb d (tq c i) ∗ oPart d c i (m (oLoc d)) ∗ ∃ f, shRow d (coreOf (F := F) c) i f))
      ∗ ((bigSep Finset.univ fun i : Fin 16 => iprop((tabs tb d (tq c i) ∗ oPart d c i (oR tb d) ∗ shEnd tb d (coreOf (F := F) c) i) ∗ semVal (bcell d (coreOf (F := F) c) i) 0))
          -∗ iprop(iprop((tabs tb d (cq c) ∗ oHalf d c (oR tb d)) ∗ bars d (coreOf (F := F) c)) ∗ ownBufs (S d (coreOf (F := F) c)))))
  rw [three Finset.univ (fun i : Fin 16 => tabs tb d (tq c i)) (fun i => oPart d c i (m (oLoc d))) (fun i => iprop(∃ f, shRow d (coreOf (F := F) c) i f)),
    four Finset.univ (fun i : Fin 16 => tabs tb d (tq c i)) (fun i => oPart d c i (oR tb d)) (fun i => shEnd tb d (coreOf (F := F) c) i)
      (fun i => semVal (bcell d (coreOf (F := F) c) i) 0),
    ← tabs_deal, ← o_parts, ← o_parts, ownBufs_S]
  iintro ⟨⟨Ht, Ho⟩, ⟨%fsh, Hsh⟩, Hrest⟩; imodintro
  isplitl [Ht Ho Hsh]
  · isplitl [Ht]; · iexact Ht
    isplitl [Ho]; · iexact Ho
    ihave Hsh := ((Entails.of_eq (sh_rows d (coreOf (F := F) c) fsh)).trans (SparseCore.ent (bigSep_mono (Φ := fun i => shRow (F := F) d (coreOf (F := F) c) i fsh)
      (Ψ := fun i => iprop(∃ f, shRow (F := F) d (coreOf (F := F) c) i f))
      fun i _ => BI.BIClass.exists_intro (Φ := fun f => shRow (F := F) d (coreOf (F := F) c) i f) fsh))) $$ Hsh
    iexact Hsh
  iintro ⟨⟨Ht, Ho, Hsh⟩, Hbars⟩
  isplitl [Ht Ho Hbars]
  · isplitr [Hbars]; swap; · iexact Hbars
    isplitl [Ht] <;> iassumption
  isplitl [Hsh]; · iapply (sh_join tb d (coreOf (F := F) c)); iexact Hsh
  iexact Hrest

end

end Cert.Proof.KI

end
-- ==== Proof.KI.Ghost.lean ====
/- The launch's ghost state: the barrier's and the deposits' keys and tokens, and the tiles' kits dealt out of them. -/
module

public import proofs.«01_k».proof.Proof.KI.Split

@[expose] public section

noncomputable section

namespace Cert.Proof.KI

open Cert.KernelIdeal Cert.KernelIdeal.Gen Cert.Proof.Vals

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

attribute [local instance] blocks

local notation "𝕄" => MT nD τ sig (HIx 2) (Elt F) ℕ UU ℕ

/-! ## The cells and the tokens -/

/-- A tile of a device: the device, the SparseCore, the place in it. -/
abbrev Tile : Type := Dev nD × Fin τ.nSC × Fin τ.nSub
/-- The key of tile `x` on the semaphore `s`. -/
abbrev key (s : Sem sig) (x : Tile) : GSem nD τ sig := (V x.1 x.2.1 x.2.2, .reg s)
/-- The keys of every tile on `s`. -/
def keys (s : Sem sig) : Finset (GSem nD τ sig) := Finset.univ.image (key s)
/-- Every tile's token numbered `off` on from its place, in each key on `s` of its SparseCore. -/
def toks (s : Sem sig) (off : ℕ) : Finset (GSem nD τ sig × ℕ × ℕ) :=
  (Finset.univ ×ˢ Finset.univ).image fun x : Tile × Fin 16 => (key s (x.1.1, x.1.2.1, x.2), 0, off + x.1.2.2.val)

theorem key_inj {s s' : Sem sig} {a b : Tile} (e : key s a = key s' b) : s = s' ∧ a = b := by
  obtain ⟨h1, h2⟩ := Prod.mk.inj (Prod.mk.inj e).1; obtain ⟨h3, h4⟩ := Proc.scVector.inj h2
  exact ⟨SemLoc.reg.inj (Prod.mk.inj e).2, Prod.ext h1 (Prod.ext h3 h4)⟩

theorem bar_ne_done : (sc_bar0 : Sem sig) ≠ sc_done := by decide

/-- The barrier's keys are not the deposits'. -/
theorem keys_disjoint : Disjoint (keys sc_bar0) (keys sc_done) := by
  rw [Finset.disjoint_left]; intro g h h'
  obtain ⟨a, -, rfl⟩ := Finset.mem_image.mp h
  obtain ⟨b, -, e⟩ := Finset.mem_image.mp h'
  exact bar_ne_done (key_inj e).1.symm

/-- Neither are their tokens. -/
theorem toks_disjoint (o o' : ℕ) : Disjoint (toks sc_bar0 o) (toks sc_done o') := by
  rw [Finset.disjoint_left]; intro g h h'
  obtain ⟨a, -, rfl⟩ := Finset.mem_image.mp h
  obtain ⟨b, -, e⟩ := Finset.mem_image.mp h'
  exact bar_ne_done (key_inj (Prod.mk.inj e).1).1.symm

/-- The tokens of the first meeting are not those of the second. -/
theorem meets_disjoint (s : Sem sig) : Disjoint (toks s 0) (toks s 16) := by
  rw [Finset.disjoint_left]; intro g h h'
  obtain ⟨a, -, rfl⟩ := Finset.mem_image.mp h
  obtain ⟨b, -, e⟩ := Finset.mem_image.mp h'
  have e2 : 16 + b.1.2.2.val = 0 + a.1.2.2.val := (Prod.mk.inj (Prod.mk.inj e).2).2
  have : a.1.2.2.val < 16 := a.1.2.2.isLt
  omega

/-- A family over the keys is one over the tiles. -/
theorem keys_eq (s : Sem sig) (Φ : GSem nD τ sig → sProp (MT nD τ sig (HIx 2) (Elt F) ℕ UU ℕ)) :
    bigSep (keys s) Φ = bigSep Finset.univ fun x : Tile => Φ (key s x) := by
  unfold keys; exact SparseCore.bigSep_image_of_injOn (fun a _ b _ e => (key_inj e).2) Φ

/-- The tokens tile by tile. -/
theorem toks_eq (s : Sem sig) (off : ℕ) : (bigSep (toks s off) fun x => (dutyTok EB x.1 x.2.1 x.2.2 : sProp 𝕄))
    = bigSep Finset.univ fun x : Tile => bigSep Finset.univ fun j : Fin 16 => dutyTok EB (key s (x.1, x.2.1, j)) 0 (off + x.2.2.val) := by
  unfold toks
  rw [SparseCore.bigSep_image_of_injOn, SparseCore.bigSep_product]
  rintro ⟨⟨d, c, i⟩, j⟩ - ⟨⟨d', c', i'⟩, j'⟩ - e
  have e1 := (key_inj (Prod.mk.inj e).1).2
  have e2 : off + i.val = off + i'.val := (Prod.mk.inj (Prod.mk.inj e).2).2
  obtain ⟨rfl, h⟩ := Prod.mk.inj e1
  obtain ⟨rfl, rfl⟩ := Prod.mk.inj h
  obtain rfl : i = i' := Fin.ext (Nat.add_left_cancel e2)
  rfl

section
variable [FloatOps F] (tb : Dev nD → Tabs) (m : (ℓ : Loc nD τ sig) → Buf (Elt F) ℓ)

/-- The certificate's ghost state at the launch: the handshakes', and the barrier's and the deposits' keys and tokens. -/
def u₀ : UU := (initOf (K (F := F)).hsCells (K (F := F)).hsToks,
  (initOf (keys sc_bar0 ∪ keys sc_done) ((toks sc_bar0 0 ∪ toks sc_bar0 16) ∪ toks sc_done 0), 1))

omit [FloatOps F] in
theorem ownU_parts (a : UH) (b : UB) : (ownU ((a, (b, 1)) : UU) : sProp 𝕄) ⊢ iprop(BI.own (EH a) ∗ BI.own (EB b)) :=
  BI.own_op_elim ((uEmb (nD := nD) (sig := sig) (Ix := HIx 2) (Val := Elt F) (Name := ℕ) (U := UU) (Lvl := ℕ)).toEmb.op_of_mem
    (Prod.mk_mem_op (URA.mem_op_one a) (URA.mem_one_op (b, (1 : Counters)))))

/-- The barrier semaphores at zero, out of the free semaphores the launch hands over. -/
theorem sems_bar : ((K (F := F)).freeOn (· ∈ keys sc_bar0) : sProp 𝕄) ⊢ bigSep (keys sc_bar0) fun g => semVal g 0 := by
  rw [keys_eq]
  unfold SparseCore.Cfg.freeOn
  refine sep_elim_right.trans (bigSep_mono fun x _ => ?_)
  exact bigSep_elim (Φ := fun sm : SemLoc sig => (semVal (V x.1 x.2.1 x.2.2, sm) 0 : sProp 𝕄)) (Finset.mem_filter.mpr
      ⟨Finset.mem_erase.mpr ⟨fun h => sc_bar0_ne_go (SemLoc.reg.inj h), Finset.mem_filter.mpr ⟨Finset.mem_univ _, by decide⟩⟩,
        Finset.mem_image_of_mem (key sc_bar0) (Finset.mem_univ x)⟩)

/-- The barrier cells' invariants, made at once. -/
theorem invs_bar : iprop((bigSep (keys sc_bar0) fun g => (semVal g 0 : sProp 𝕄)) ∗ bigSep (keys sc_bar0) fun g => initState EB g)
    ⊢ |={Set.univ}=> iprop(∃ κ : GSem nD τ sig → ℕ, bigSep (keys sc_bar0) fun g => cellInv EB (bRd (F := F) tb) (κ g) g) := by
  refine (sep_mono_right (SparseCore.ent (bigSep_mono fun g _ => SparseCore.ent (roundState_init EB (bRd (F := F) tb))))).trans ?_
  refine (Rounds.bodies_intro EB (bRd (F := F) tb) (keys sc_bar0)).trans ((inv_alloc_family (keys sc_bar0) (Rounds.body EB (bRd (F := F) tb)) ∅ (E := Set.univ)).trans ?_)
  iintro H
  imod H with ⟨%κ, -, Hinv⟩
  imodintro; iexists κ; iexact Hinv

/-- The place of tile `x`'s deposit, by its key. -/
def bankOf (g : GSem nD τ sig) : sProp 𝕄 :=
  match g with
  | ((d, .scVector c k), _) => bank tb d c k
  | _ => iprop(emp)

instance bankOf_storable (g : GSem nD τ sig) : BI.Storable (upEmb : UEmb _ 𝕄) (bankOf tb g) := by
  unfold bankOf
  rcases g with ⟨⟨d, _ | c | ⟨c, i⟩⟩, sm⟩ <;> dsimp only <;> infer_instance

/-- The deposits' invariants, made at once: nothing deposited yet. -/
theorem invs_bank : (bigSep (keys sc_done) fun g => initState EB g : sProp 𝕄)
    ⊢ |={Set.univ}=> iprop(∃ ν : GSem nD τ sig → ℕ, bigSep Finset.univ fun x : Tile => inv (ν (key sc_done x)) (bank tb x.1 x.2.1 x.2.2)) := by
  have h : (bigSep (keys sc_done) fun g => initState EB g : sProp 𝕄) ⊢ bigSep (keys sc_done) (bankOf tb) := by
    rw [keys_eq, keys_eq]
    refine SparseCore.ent (bigSep_mono fun x _ => ?_)
    show iprop(roundAuth EB (key sc_done x) 0 ∅ 0 ∗ ledgerAuth EB (key sc_done x) 0 ∅ (fun _ => 0)) ⊢ bank tb x.1 x.2.1 x.2.2
    unfold bank
    iintro ⟨H, -⟩; ileft; iexact H
  refine h.trans ((inv_alloc_family (keys sc_done) (bankOf tb) ∅ (E := Set.univ)).trans ?_)
  iintro H
  imod H with ⟨%ν, -, Hinv⟩
  ihave Hinv' := (Entails.of_eq (keys_eq (F := F) sc_done fun g => inv (ν g) (bankOf tb g))) $$ Hinv
  imodintro; iexists ν; iexact Hinv'

omit [FloatOps F] in
theorem units (g : GSem nD τ sig) (ι : HIx 2) (n : ℕ) : ∑ _ : Fin n, tallyAt g ι 1 = (tallyAt g ι n : CellTallies nD τ sig (HIx 2)) := by
  induction n with
  | zero => rw [tallyAt_zero]; rfl
  | succ n ih => rw [Fin.sum_univ_castSucc, ih, tallyAt_add]

omit [FloatOps F] in
/-- One meeting's credits, over the tiles of a SparseCore: what each owes every cell is what each cell is owed. -/
theorem cred_meet (d : Dev nD) (c : Fin τ.nSC) (b : Fin 2) :
    (bigSep Finset.univ fun _ : Fin 16 => cred (oxS d c b) : sProp 𝕄) = bigSep Finset.univ fun j : Fin 16 => cred (tallyAt (bcell d c j) (some b) 16) := by
  unfold oxS
  simp only [SparseCore.Cfg.cred_finsum]
  rw [Pipeline.bigSep_univ_comm]
  refine bigSep_congr fun j _ => ?_
  rw [← SparseCore.Cfg.cred_finsum, units]

/-- The credits for the tiles' debts, regrouped: each tile the sixteen units of each meeting at its own cell. -/
theorem creds_bar : ((P (F := F) tb m).oxCred : sProp 𝕄) ⊢ bigSep Finset.univ fun x : Tile =>
    iprop(cred (tallyAt (key sc_bar0 x) (some 0) 16) ∗ cred (tallyAt (key sc_bar0 x) (some 1) 16)) := by
  unfold SparseCore.Cfg.Pay.oxCred
  rw [SparseCore.Cfg.bigSep_threads (fun thr : Thread nD τ => (cred ((P (F := F) tb m).oxFrom 0 thr) : sProp 𝕄))]
  refine sep_elim_right.trans (sep_elim_right.trans ?_)
  rw [bigSep_univ_prod, bigSep_univ_prod (fun x : Tile => iprop(cred (tallyAt (key sc_bar0 x) (some 0) 16) ∗ cred (tallyAt (key sc_bar0 x) (some 1) 16)))]
  refine bigSep_mono fun d _ => ?_
  rw [bigSep_univ_prod, bigSep_univ_prod (fun ci : Fin τ.nSC × Fin τ.nSub =>
    iprop(cred (tallyAt (key sc_bar0 (d, ci)) (some 0) 16) ∗ cred (tallyAt (key sc_bar0 (d, ci)) (some 1) 16)))]
  refine bigSep_mono fun c _ => ?_
  dsimp only
  have hox : ∀ i, (P (F := F) tb m).oxFrom 0 (V d c i) = oxV d c := fun i => by
    rw [show (0 : ℕ) = (0 : Fin 1).val from rfl, (P tb m).oxFrom_step, (P tb m).oxFrom_end _ (n := (0 : Fin 1).val + 1) le_rfl, add_zero]; rfl
  simp only [hox]
  unfold oxV
  simp only [SparseCore.Cfg.cred_add_eq]
  show (bigSep Finset.univ fun _ : Fin 16 => iprop(cred (oxS d c 1) ∗ cred (oxS d c 0))) ⊢ (bigSep Finset.univ fun j : Fin 16 =>
    iprop(cred (tallyAt (bcell d c j) (some 0) 16) ∗ cred (tallyAt (bcell d c j) (some 1) 16)) : sProp 𝕄)
  rw [bigSep_sep', bigSep_sep', cred_meet, cred_meet]
  iintro ⟨H1, H0⟩
  isplitl [H0] <;> iassumption

/-! ## Dealing the kits -/

omit [FloatOps F] in
/-- A persistent resource beside a conjunction goes to each conjunct. -/
theorem give {I : Type} [DecidableEq I] {R : sProp (MT nD τ sig (HIx 2) (Elt F) ℕ UU ℕ)} [BI.Persistent R] {s : Finset I}
    {Φ Ψ : I → sProp (MT nD τ sig (HIx 2) (Elt F) ℕ UU ℕ)}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
/-- A persistent family over the tiles gives any tile that over its SparseCore. -/
theorem mates (Φ : Tile → sProp (MT nD τ sig (HIx 2) (Elt F) ℕ UU ℕ)) [∀ x, BI.Persistent (Φ x)] (d : Dev nD) (c : Fin τ.nSC) :
    (bigSep Finset.univ Φ) ⊢ bigSep Finset.univ fun j : Fin 16 => Φ (d, c, j) := by
  iintro #H
  iapply (SparseCore.ent (give (s := (Finset.univ : Finset (Fin 16))) (Φ := fun _ => iprop(emp)) (R := bigSep Finset.univ Φ) fun j _ =>
    sep_elim_left.trans (bigSep_elim (Φ := Φ) (Finset.mem_univ (d, c, j)))))
  isplitl; · iexact H
  rw [bigSep_emp']; iempintro

/-- What every tile is handed alike. -/
abbrev alike : sProp 𝕄 :=
  iprop((∃ κ : GSem nD τ sig → ℕ, bigSep Finset.univ fun x : Tile => cellInv EB (bRd (F := F) tb) (κ (key sc_bar0 x)) (key sc_bar0 x))
    ∗ (bigSep Finset.univ fun x : Tile => reached EB (key sc_bar0 x) 0)
    ∗ ∃ ν : GSem nD τ sig → ℕ, bigSep Finset.univ fun x : Tile => inv (ν (key sc_done x)) (bank tb x.1 x.2.1 x.2.2))
omit [FloatOps F] in
/-- What each tile is handed of its own. -/
abbrev own1 (x : Tile) : sProp 𝕄 :=
  iprop((bigSep Finset.univ fun j : Fin 16 => dutyTok EB (key sc_bar0 (x.1, x.2.1, j)) 0 (0 + x.2.2.val))
    ∗ (bigSep Finset.univ fun j : Fin 16 => dutyTok EB (key sc_bar0 (x.1, x.2.1, j)) 0 (16 + x.2.2.val))
    ∗ (bigSep Finset.univ fun k : Fin 16 => dutyTok EB (key sc_done (x.1, x.2.1, k)) 0 (0 + x.2.2.val))
    ∗ atPos EB (key sc_done x) 0 ∅ 0 ∗ atPos EB (key sc_bar0 x) 0 ∅ 0
    ∗ cred (tallyAt (key sc_bar0 x) (some 0) 16) ∗ cred (tallyAt (key sc_bar0 x) (some 1) 16))

/-- One tile's kit out of those. -/
theorem kit_intro (x : Tile) : iprop(alike (F := F) tb ∗ own1 x) ⊢ (bkit (F := F) tb x.1 x.2.1 x.2.2 : sProp 𝕄) := by
  obtain ⟨d, c, i⟩ := x
  unfold own1
  simp only [Nat.zero_add]
  iintro ⟨⟨#Hinv, #Hr, #Hbk⟩, Ht1, Ht2, Ht3, Hat1, Hat2, Hc0, Hc1⟩
  unfold bkit
  isplitr
  · icases Hinv with ⟨%κ, Hinv⟩
    iexists κ
    iapply (mates (F := F) (fun x : Tile => cellInv EB (bRd (F := F) tb) (κ (key sc_bar0 x)) (key sc_bar0 x)) d c)
    iexact Hinv
  isplitr
  · iapply (mates (F := F) (fun x : Tile => reached EB (key sc_bar0 x) 0) d c); iexact Hr
  isplitl [Ht1]; · iexact Ht1
  isplitl [Ht2]; · iexact Ht2
  isplitr
  · icases Hbk with ⟨%ν, Hbk⟩
    iexists ν
    iapply (mates (F := F) (fun x : Tile => inv (ν (key sc_done x)) (bank tb x.1 x.2.1 x.2.2)) d c)
    iexact Hbk
  isplitl [Ht3]; · iexact Ht3
  isplitl [Hat1]; · iexact Hat1
  isplitl [Hat2]; · iexact Hat2
  isplitl [Hc0] <;> iassumption

theorem x_T (d : Dev nD) : (bigSep Finset.univ fun q : Fin 1 => (P (F := F) tb m).x q (SparseCore.T d)) = iprop(emp) :=
  bigSep_univ_of_subsingleton (0 : Fin 1)
theorem x_S (d : Dev nD) (c : Fin τ.nSC) : (bigSep Finset.univ fun q : Fin 1 => (P (F := F) tb m).x q (S d c)) = iprop(emp) :=
  bigSep_univ_of_subsingleton (0 : Fin 1)
theorem x_V (d : Dev nD) (c : Fin τ.nSC) (i : Fin τ.nSub) :
    (bigSep Finset.univ fun q : Fin 1 => (P (F := F) tb m).x q (V d c i)) = bkit tb d c i :=
  bigSep_univ_of_subsingleton (0 : Fin 1)

/-- Each tile its kit. -/
theorem kits : iprop(alike (F := F) tb ∗ bigSep Finset.univ (own1 (F := F)))
      ⊢ (bigSep Finset.univ fun thr : Thread nD τ => bigSep Finset.univ fun q : Fin 1 => (P (F := F) tb m).x q thr : sProp 𝕄) := by
  rw [SparseCore.Cfg.bigSep_threads (fun thr : Thread nD τ => bigSep Finset.univ fun q : Fin 1 => (P tb m).x q thr)]
  simp only [x_T, x_S, x_V, bigSep_emp']
  iintro ⟨#Hsh, H⟩
  isplitr; · iempintro
  isplitr; · iempintro
  iapply (SparseCore.ent (give (R := alike (F := F) tb) (Φ := own1 (F := F)) fun x _ => kit_intro (F := F) tb x))
  isplitr; · iexact Hsh
  iexact H

omit [FloatOps F] in
/-- Seven families over one index, held one by one, are held together. -/
theorem seven {I : Type} [DecidableEq I] (s : Finset I) (A B C E G H J : I → sProp (MT nD τ sig (HIx 2) (Elt F) ℕ UU ℕ)) :
    (bigSep s fun i => iprop(A i ∗ B i ∗ C i ∗ E i ∗ G i ∗ H i ∗ J i))
      = iprop(bigSep s A ∗ bigSep s B ∗ bigSep s C ∗ bigSep s E ∗ bigSep s G ∗ bigSep s fun i => iprop(H i ∗ J i)) := by
  rw [bigSep_sep' s, bigSep_sep' s, bigSep_sep' s, bigSep_sep' s, bigSep_sep' s]

omit [FloatOps F] in
/-- The launch element over two families of keys and three of tokens gives each family its own. -/
theorem fund_parts (A B : Finset (GSem nD τ sig)) (T₁ T₂ T₃ : Finset (GSem nD τ sig × ℕ × ℕ)) (hAB : Disjoint A B) (h12 : Disjoint T₁ T₂)
    (h3 : Disjoint (T₁ ∪ T₂) T₃) :
    BI.own (EB (initOf (A ∪ B) ((T₁ ∪ T₂) ∪ T₃)))
      ⊢ (iprop(|==> (((bigSep A fun g => initState EB g) ∗ bigSep B fun g => initState EB g)
          ∗ (bigSep A fun g => reached EB g 0)
          ∗ ((bigSep A fun g => atPos EB g 0 ∅ 0) ∗ bigSep B fun g => atPos EB g 0 ∅ 0)
          ∗ (bigSep T₁ fun x => dutyTok EB x.1 x.2.1 x.2.2) ∗ (bigSep T₂ fun x => dutyTok EB x.1 x.2.1 x.2.2)
          ∗ bigSep T₃ fun x => dutyTok EB x.1 x.2.1 x.2.2)) : sProp 𝕄) := by
  refine (Rounds.fund_init EB (A ∪ B) ((T₁ ∪ T₂) ∪ T₃)).trans (BI.bupd_mono ?_)
  rw [SparseCore.bigSep_union' hAB, SparseCore.bigSep_union' hAB, SparseCore.bigSep_union' hAB, SparseCore.bigSep_union' h3, SparseCore.bigSep_union' h12]
  change (_ : sProp 𝕄) ⊢ _
  iintro ⟨Hs, ⟨Hr, -⟩, Ha, ⟨Ht1, Ht2⟩, Ht3⟩
  isplitl [Hs]; · iexact Hs
  isplitl [Hr]; · iexact Hr
  isplitl [Ha]; · iexact Ha
  isplitl [Ht1]; · iexact Ht1
  isplitl [Ht2]; · iexact Ht2
  iexact Ht3

/-- What the launch element gives, tile by tile. -/
theorem fund_tiles :
    BI.own (EB (initOf (keys sc_bar0 ∪ keys sc_done) ((toks sc_bar0 0 ∪ toks sc_bar0 16) ∪ toks sc_done 0)))
      ⊢ (iprop(|==> (((bigSep (keys sc_bar0) fun g => initState EB g) ∗ bigSep (keys sc_done) fun g => initState EB g)
          ∗ (bigSep Finset.univ fun x : Tile => reached EB (key sc_bar0 x) 0)
          ∗ ((bigSep Finset.univ fun x : Tile => atPos EB (key sc_bar0 x) 0 ∅ 0) ∗ bigSep Finset.univ fun x : Tile => atPos EB (key sc_done x) 0 ∅ 0)
          ∗ (bigSep Finset.univ fun x : Tile => bigSep Finset.univ fun j : Fin 16 => dutyTok EB (key sc_bar0 (x.1, x.2.1, j)) 0 (0 + x.2.2.val))
          ∗ (bigSep Finset.univ fun x : Tile => bigSep Finset.univ fun j : Fin 16 => dutyTok EB (key sc_bar0 (x.1, x.2.1, j)) 0 (16 + x.2.2.val))
          ∗ bigSep Finset.univ fun x : Tile => bigSep Finset.univ fun j : Fin 16 => dutyTok EB (key sc_done (x.1, x.2.1, j)) 0 (0 + x.2.2.val))) : sProp 𝕄) := by
  have h := fund_parts (F := F) (keys sc_bar0) (keys sc_done) (toks sc_bar0 0) (toks sc_bar0 16) (toks sc_done 0)
    keys_disjoint (meets_disjoint sc_bar0) (Finset.disjoint_union_left.mpr ⟨toks_disjoint 0 0, toks_disjoint 16 0⟩)
  rw [toks_eq, toks_eq, toks_eq, keys_eq sc_bar0 (fun g => reached EB g 0), keys_eq sc_bar0 (fun g => atPos EB g 0 ∅ 0),
    keys_eq sc_done (fun g => atPos EB g 0 ∅ 0)] at h
  exact h

/-- The barrier cells' invariants, tile by tile. -/
theorem invs_tiles : iprop((K (F := F)).freeOn (· ∈ keys sc_bar0) ∗ bigSep (keys sc_bar0) fun g => initState EB g)
    ⊢ |={Set.univ}=> (iprop(∃ κ : GSem nD τ sig → ℕ, bigSep Finset.univ fun x : Tile => cellInv EB (bRd (F := F) tb) (κ (key sc_bar0 x)) (key sc_bar0 x)) : sProp 𝕄) := by
  refine (sep_mono_left (sems_bar (F := F))).trans ((invs_bar (F := F) tb).trans (BI.fupd_mono ?_))
  simp only [keys_eq]
  exact Entails.of_eq rfl

/-- The launch's ghost state, credits and free semaphores make the handshakes' state and every tile's kit. -/
theorem hu₀ : iprop(ownU (u₀ (F := F)) ∗ (P (F := F) tb m).oxCred ∗ (K (F := F)).freeOn (· ∈ keys sc_bar0))
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P tb m).x q thr) : sProp 𝕄) := by
  unfold u₀
  refine (sep_mono_left (ownU_parts (F := F) _ _)).trans ?_
  refine BI.Entails.trans ?_ (BI.fupd_mono (sep_mono_right (sep_mono_right (kits tb m))))
  rw [bigSep_emp']
  unfold own1
  rw [seven]
  change (_ : sProp 𝕄) ⊢ _
  iintro ⟨⟨HH, HB⟩, Hcred, Hfree⟩
  imod (fund_tiles (F := F)) $$ HB with ⟨⟨Hsb, Hsd⟩, Hr, ⟨Hab, Had⟩, Ht0, Ht1, Ht2⟩
  imod (invs_tiles (F := F) tb) $$ [Hfree Hsb] with Hinv
  · isplitl [Hfree] <;> iassumption
  imod (invs_bank (F := F) tb) $$ Hsd with Hbk
  ihave Hcred' := (creds_bar tb m) $$ Hcred
  imodintro
  isplitl [HH]; · iexact HH
  isplitr; · iempintro
  isplitl [Hinv Hr Hbk]
  · isplitl [Hinv]; · iexact Hinv
    isplitl [Hr]; · iexact Hr
    iexact Hbk
  isplitl [Ht0]; · iexact Ht0
  isplitl [Ht1]; · iexact Ht1
  isplitl [Ht2]; · iexact Ht2
  isplitl [Had]; · iexact Had
  isplitl [Hab]; · iexact Hab
  iexact Hcred'

end

end Cert.Proof.KI

end
-- ==== Proof.KI.Launch.lean ====
/- The degree kernel's run: @main on the TensorCore, and what the whole program ends with. -/
module

public import proofs.«01_k».proof.Proof.KI.Ghost

@[expose] public section

noncomputable section

namespace Cert.Proof.KI

open Cert.KernelIdeal Cert.KernelIdeal.Gen Cert.Proof.Vals

open Idealize.ShloMosaic
open Idealize.ShloMosaic.StableHlo (held held_split held_sdiff_result wp_hlo_within)
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

attribute [local instance] blocks

local notation "𝕄" => MT nD τ sig (HIx 2) (Elt F) ℕ UU ℕ

/-! ## @main on the TensorCore -/

abbrev r_arg0 : DevRef τ sig := Proc.devRef .tc (main_arg0 : Ref sig .tc)
abbrev r_arg1 : DevRef τ sig := Proc.devRef .tc (main_arg1 : Ref sig .tc)
abbrev r_arg2 : DevRef τ sig := Proc.devRef .tc (main_arg2 : Ref sig .tc)
abbrev r_v0 : DevRef τ sig := Proc.devRef .tc (main_v0 : Ref sig .tc)
abbrev r_v1 : DevRef τ sig := Proc.devRef .tc (main_v1 : Ref sig .tc)
abbrev r_v2 : DevRef τ sig := Proc.devRef .tc (main_v2 : Ref sig .tc)
abbrev r_v3 : DevRef τ sig := Proc.devRef .tc (main_v3 : Ref sig .tc)
abbrev r_v4 : DevRef τ sig := Proc.devRef .tc (main_v4 : Ref sig .tc)
abbrev r_v5 : DevRef τ sig := Proc.devRef .tc (main_v5 : Ref sig .tc)
abbrev r_v6 : DevRef τ sig := Proc.devRef .tc (main_v6 : Ref sig .tc)
abbrev r_v7 : DevRef τ sig := Proc.devRef .tc (main_v7 : Ref sig .tc)
abbrev r_v8 : DevRef τ sig := Proc.devRef .tc (main_v8 : Ref sig .tc)
abbrev opS_v0 : HloOp τ sig (Elt F) := StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F))
abbrev opR_v1 : HloOp τ sig (Elt F) := StableHlo.reshape main_v0 main_v1 (rfl : (.i32 : EltTy) = .i32) shapeCasts_S1x320000_S320000
abbrev opS_v2 : HloOp τ sig (Elt F) := StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F))
abbrev opR_v3 : HloOp τ sig (Elt F) := StableHlo.reshape main_v2 main_v3 (rfl : (.i32 : EltTy) = .i32) shapeCasts_S1x320000_S320000
abbrev opS_v4 : HloOp τ sig (Elt F) := StableHlo.unary main_arg2 main_v4 ((extractStridedSlice S1x320000 ![0, 0] · slices_S2x320000_S1x320000_0_0) : (⟨S2x320000, .i32⟩ : BufTy).Contents (Elt F) → (⟨S1x320000, .i32⟩ : BufTy).Contents (Elt F))
abbrev opR_v5 : HloOp τ sig (Elt F) := StableHlo.reshape main_v4 main_v5 (rfl : (.i32 : EltTy) = .i32) shapeCasts_S1x320000_S320000
abbrev opS_v6 : HloOp τ sig (Elt F) := StableHlo.unary main_arg2 main_v6 ((extractStridedSlice S1x320000 ![1, 0] · slices_S2x320000_S1x320000_1_0) : (⟨S2x320000, .i32⟩ : BufTy).Contents (Elt F) → (⟨S1x320000, .i32⟩ : BufTy).Contents (Elt F))
abbrev opR_v7 : HloOp τ sig (Elt F) := StableHlo.reshape main_v6 main_v7 (rfl : (.i32 : EltTy) = .i32) shapeCasts_S1x320000_S320000

/-- The TensorCore's arrays, all of them unscoped. -/
abbrev S12 : Finset (DevRef τ sig) := {r_arg0, r_arg1, r_arg2, r_v0, r_v1, r_v2, r_v3, r_v4, r_v5, r_v6, r_v7, r_v8}

theorem held_S12 (d : Dev nD) (W : Valuation τ sig (Elt F)) :
    (held (T d) S12 W : sProp 𝕄)
      = iprop(((SparseCore.T d).loc main_arg0 ↦{fullShare} W r_arg0) ∗ ((SparseCore.T d).loc main_arg1 ↦{fullShare} W r_arg1) ∗ ((SparseCore.T d).loc main_arg2 ↦{fullShare} W r_arg2) ∗ ((SparseCore.T d).loc main_v0 ↦{fullShare} W r_v0) ∗ ((SparseCore.T d).loc main_v1 ↦{fullShare} W r_v1) ∗ ((SparseCore.T d).loc main_v2 ↦{fullShare} W r_v2) ∗ ((SparseCore.T d).loc main_v3 ↦{fullShare} W r_v3) ∗ ((SparseCore.T d).loc main_v4 ↦{fullShare} W r_v4) ∗ ((SparseCore.T d).loc main_v5 ↦{fullShare} W r_v5) ∗ ((SparseCore.T d).loc main_v6 ↦{fullShare} W r_v6) ∗ ((SparseCore.T d).loc main_v7 ↦{fullShare} W r_v7) ∗ ((SparseCore.T d).loc main_v8 ↦{fullShare} W r_v8)) := by
  unfold held S12
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop(((SparseCore.T d).loc main_arg0 ↦{fullShare} W main_arg0) ∗ ((SparseCore.T d).loc main_arg1 ↦{fullShare} W main_arg1) ∗ ((SparseCore.T d).loc main_arg2 ↦{fullShare} W main_arg2) ∗ ((SparseCore.T d).loc main_v0 ↦{fullShare} W main_v0) ∗ ((SparseCore.T d).loc main_v1 ↦{fullShare} W main_v1) ∗ ((SparseCore.T d).loc main_v2 ↦{fullShare} W main_v2) ∗ ((SparseCore.T d).loc main_v3 ↦{fullShare} W main_v3) ∗ ((SparseCore.T d).loc main_v4 ↦{fullShare} W main_v4) ∗ ((SparseCore.T d).loc main_v5 ↦{fullShare} W main_v5) ∗ ((SparseCore.T d).loc main_v6 ↦{fullShare} W main_v6) ∗ ((SparseCore.T d).loc main_v7 ↦{fullShare} W main_v7) ∗ ((SparseCore.T d).loc main_v8 ↦{fullShare} W main_v8)) := by
  unfold unscopedBufs
  rw [show (Finset.univ.filter fun b : Ref sig .tc => ¬ b.isScoped) = {main_arg0, main_arg1, main_arg2, main_v0, main_v1, main_v2, main_v3, main_v4, main_v5, main_v6, main_v7, main_v8} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

section
variable [FloatOps F] (m : (ℓ : Loc nD τ sig) → Buf (Elt F) ℓ) (ρ : Dev nD → PrngReg)

omit [FloatOps F] in
/-- The contents at the launch, and after each of the operations before the call. -/
abbrev V0 (d : Dev nD) : Valuation τ sig (Elt F) := fun b => m (d, b)
abbrev V1 (d : Dev nD) : Valuation τ sig (Elt F) := (opS_v0 (F := F)).result (V0 m d)
abbrev V2 (d : Dev nD) : Valuation τ sig (Elt F) := (opR_v1 (F := F)).result (V1 m d)
abbrev V3 (d : Dev nD) : Valuation τ sig (Elt F) := (opS_v2 (F := F)).result (V2 m d)
abbrev V4 (d : Dev nD) : Valuation τ sig (Elt F) := (opR_v3 (F := F)).result (V3 m d)
abbrev V5 (d : Dev nD) : Valuation τ sig (Elt F) := (opS_v4 (F := F)).result (V4 m d)
abbrev V6 (d : Dev nD) : Valuation τ sig (Elt F) := (opR_v5 (F := F)).result (V5 m d)
abbrev V7 (d : Dev nD) : Valuation τ sig (Elt F) := (opS_v6 (F := F)).result (V6 m d)
abbrev V8 (d : Dev nD) : Valuation τ sig (Elt F) := (opR_v7 (F := F)).result (V7 m d)

/-- The four lists the call is handed. -/
def tbOf (d : Dev nD) : Tabs := ⟨V8 m d r_v1, V8 m d r_v3, V8 m d r_v5, V8 m d r_v7⟩

theorem unscoped_held (d : Dev nD) : (unscopedBufs d (fun b => m ((SparseCore.T d).loc b)) : sProp 𝕄) = held (T d) S12 (V0 m d) := by
  rw [unscopedBufs_eq, held_S12]

/-- An array none of the operations writes is at its launch contents. -/
theorem V8_keep (d : Dev nD) (b : DevRef τ sig) (h : b ∉ ({r_v0, r_v1, r_v2, r_v3, r_v4, r_v5, r_v6, r_v7} : Finset (DevRef τ sig))) : V8 m d b = m (d, b) := by
  simp only [Finset.mem_insert, Finset.mem_singleton, not_or] at h
  obtain ⟨h0, h1, h2, h3, h4, h5, h6, h7⟩ := h
  unfold V8 V7 V6 V5 V4 V3 V2 V1 V0
  rw [(opR_v7 (F := F)).result_of_not_mem _ (show b ∉ ({r_v7} : Finset (DevRef τ sig)) from fun e => h7 (Finset.mem_singleton.mp e)),
    (opS_v6 (F := F)).result_of_not_mem _ (show b ∉ ({r_v6} : Finset (DevRef τ sig)) from fun e => h6 (Finset.mem_singleton.mp e)),
    (opR_v5 (F := F)).result_of_not_mem _ (show b ∉ ({r_v5} : Finset (DevRef τ sig)) from fun e => h5 (Finset.mem_singleton.mp e)),
    (opS_v4 (F := F)).result_of_not_mem _ (show b ∉ ({r_v4} : Finset (DevRef τ sig)) from fun e => h4 (Finset.mem_singleton.mp e)),
    (opR_v3 (F := F)).result_of_not_mem _ (show b ∉ ({r_v3} : Finset (DevRef τ sig)) from fun e => h3 (Finset.mem_singleton.mp e)),
    (opS_v2 (F := F)).result_of_not_mem _ (show b ∉ ({r_v2} : Finset (DevRef τ sig)) from fun e => h2 (Finset.mem_singleton.mp e)),
    (opR_v1 (F := F)).result_of_not_mem _ (show b ∉ ({r_v1} : Finset (DevRef τ sig)) from fun e => h1 (Finset.mem_singleton.mp e)),
    (opS_v0 (F := F)).result_of_not_mem _ (show b ∉ ({r_v0} : Finset (DevRef τ sig)) from fun e => h0 (Finset.mem_singleton.mp e))]

theorem hopS_v0 : (opS_v0 (F := F)).bufs ⊆ S12 := show ({r_arg1, r_v0} : Finset (DevRef τ sig)) ⊆ S12 by decide
theorem hopR_v1 : (opR_v1 (F := F)).bufs ⊆ S12 := show ({r_v0, r_v1} : Finset (DevRef τ sig)) ⊆ S12 by decide
theorem hopS_v2 : (opS_v2 (F := F)).bufs ⊆ S12 := show ({r_arg1, r_v2} : Finset (DevRef τ sig)) ⊆ S12 by decide
theorem hopR_v3 : (opR_v3 (F := F)).bufs ⊆ S12 := show ({r_v2, r_v3} : Finset (DevRef τ sig)) ⊆ S12 by decide
theorem hopS_v4 : (opS_v4 (F := F)).bufs ⊆ S12 := show ({r_arg2, r_v4} : Finset (DevRef τ sig)) ⊆ S12 by decide
theorem hopR_v5 : (opR_v5 (F := F)).bufs ⊆ S12 := show ({r_v4, r_v5} : Finset (DevRef τ sig)) ⊆ S12 by decide
theorem hopS_v6 : (opS_v6 (F := F)).bufs ⊆ S12 := show ({r_arg2, r_v6} : Finset (DevRef τ sig)) ⊆ S12 by decide
theorem hopR_v7 : (opR_v7 (F := F)).bufs ⊆ S12 := show ({r_v6, r_v7} : Finset (DevRef τ sig)) ⊆ S12 by decide

/-- The arrays held before the call: the arguments, the lists, the result's array and what is left of the operations. -/
theorem held_V8 (d : Dev nD) :
    (held (T d) S12 (V8 m d) : sProp 𝕄) = iprop(((SparseCore.T d).loc main_arg0 ↦{fullShare} m ((SparseCore.T d).loc main_arg0))
      ∗ ((SparseCore.T d).loc main_arg1 ↦{fullShare} m ((SparseCore.T d).loc main_arg1))
      ∗ ((SparseCore.T d).loc main_arg2 ↦{fullShare} m ((SparseCore.T d).loc main_arg2))
      ∗ ((SparseCore.T d).loc main_v0 ↦{fullShare} V8 m d r_v0) ∗ (hdLoc d ↦{fullShare} (tbOf m d).hd)
      ∗ ((SparseCore.T d).loc main_v2 ↦{fullShare} V8 m d r_v2) ∗ (tlLoc d ↦{fullShare} (tbOf m d).tl)
      ∗ ((SparseCore.T d).loc main_v4 ↦{fullShare} V8 m d r_v4) ∗ (srLoc d ↦{fullShare} (tbOf m d).sr)
      ∗ ((SparseCore.T d).loc main_v6 ↦{fullShare} V8 m d r_v6) ∗ (dsLoc d ↦{fullShare} (tbOf m d).ds)
      ∗ (oLoc d ↦{fullShare} m (oLoc d))) := by
  rw [held_S12, V8_keep m d r_arg0 (by decide), V8_keep m d r_arg1 (by decide), V8_keep m d r_arg2 (by decide), V8_keep m d r_v8 (by decide)]
  rfl

/-- The lists whole are the two SparseCores' shares of them. -/
theorem tabs_two (tb : Dev nD → Tabs) (d : Dev nD) : (tabs tb d fullShare : sProp 𝕄) = bigSep Finset.univ fun c : Fin 2 => tabs tb d (cq c) := by
  unfold tabs
  rw [bigSep_sep', bigSep_sep', bigSep_sep', ← pts_deal 1, ← pts_deal 1, ← pts_deal 1, ← pts_deal 1]

omit [FloatOps F] in
/-- The result's array whole is its two halves. -/
theorem o_two (d : Dev nD) (f : Buf (Elt F) (oLoc d)) : (oLoc d ↦{fullShare} f : sProp 𝕄) = bigSep Finset.univ fun c : Fin 2 => oHalf d c f := by
  show (oLoc d ↦[(Finset.univ : Finset (L1 320000).Idx)]{fullShare} f) = _
  rw [← seg_univ 320000]
  refine (o_segs (lo := 0) (len := 160000) (k := 2) d fullShare f).trans (bigSep_congr fun i _ => ?_)
  rw [Nat.zero_add]

/-- What the call is handed is the lists and the result's array. -/
theorem st_eq (tb : Dev nD → Tabs) (d : Dev nD) : (bigSep Finset.univ fun c : Fin ((K (F := F)).nCore 0) => (P tb m).st 0 d c)
    = iprop(tabs tb d fullShare ∗ oLoc d ↦{fullShare} m (oLoc d)) := by
  rw [tabs_two, o_two, ← bigSep_sep']; rfl

/-- What it hands back is the lists, the result, and the barrier semaphores at zero. -/
theorem dn_eq (tb : Dev nD → Tabs) (d : Dev nD) : (bigSep Finset.univ fun c : Fin ((K (F := F)).nCore 0) => (P tb m).dn 0 d c)
    = iprop((tabs tb d fullShare ∗ oLoc d ↦{fullShare} oR tb d) ∗ bigSep Finset.univ fun c : Fin 2 => bars d (coreOf (F := F) c)) := by
  rw [tabs_two, o_two, ← bigSep_sep', ← bigSep_sep']; rfl

/-- What @main leaves to the claims: the arguments as they were, the result, the barrier semaphores at zero. -/
abbrev FIN (d : Dev nD) : sProp 𝕄 :=
  iprop(((SparseCore.T d).loc main_arg0 ↦{fullShare} m ((SparseCore.T d).loc main_arg0))
    ∗ ((SparseCore.T d).loc main_arg1 ↦{fullShare} m ((SparseCore.T d).loc main_arg1))
    ∗ ((SparseCore.T d).loc main_arg2 ↦{fullShare} m ((SparseCore.T d).loc main_arg2))
    ∗ (oLoc d ↦{fullShare} oR (tbOf m) d) ∗ bigSep Finset.univ fun c : Fin 2 => bars d (coreOf (F := F) c))

/-- @main on a device's TensorCore: the four rows sliced out and flattened, then the call. -/
theorem hmain (κ : GSem nD τ sig → ℕ) (d : Dev nD) :
    iprop((K (F := F)).ctx EH (P (tbOf m) m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opS_v0) (S := S12) hopS_v0 (V := V0 m d)) $$ [Hb Hheld]
  · isplitl [Hb] <;> iassumption
  iintro ⟨Hb, Hheld⟩
  rw [wp_ret]; imodintro
  iapply (wp_hlo_within 𝒱 (SparseCore.T d) none Set.univ (op := opR_v1) (S := S12) hopR_v1 (V := V1 m d)) $$ [Hb Hheld]
  · isplitl [Hb] <;> iassumption
  iintro ⟨Hb, Hheld⟩
  rw [wp_ret]; imodintro
  iapply (wp_hlo_within 𝒱 (SparseCore.T d) none Set.univ (op := opS_v2) (S := S12) hopS_v2 (V := V2 m d)) $$ [Hb Hheld]
  · isplitl [Hb] <;> iassumption
  iintro ⟨Hb, Hheld⟩
  rw [wp_ret]; imodintro
  iapply (wp_hlo_within 𝒱 (SparseCore.T d) none Set.univ (op := opR_v3) (S := S12) hopR_v3 (V := V3 m d)) $$ [Hb Hheld]
  · isplitl [Hb] <;> iassumption
  iintro ⟨Hb, Hheld⟩
  rw [wp_ret]; imodintro
  iapply (wp_hlo_within 𝒱 (SparseCore.T d) none Set.univ (op := opS_v4) (S := S12) hopS_v4 (V := V4 m d)) $$ [Hb Hheld]
  · isplitl [Hb] <;> iassumption
  iintro ⟨Hb, Hheld⟩
  rw [wp_ret]; imodintro
  iapply (wp_hlo_within 𝒱 (SparseCore.T d) none Set.univ (op := opR_v5) (S := S12) hopR_v5 (V := V5 m d)) $$ [Hb Hheld]
  · isplitl [Hb] <;> iassumption
  iintro ⟨Hb, Hheld⟩
  rw [wp_ret]; imodintro
  iapply (wp_hlo_within 𝒱 (SparseCore.T d) none Set.univ (op := opS_v6) (S := S12) hopS_v6 (V := V6 m d)) $$ [Hb Hheld]
  · isplitl [Hb] <;> iassumption
  iintro ⟨Hb, Hheld⟩
  rw [wp_ret]; imodintro
  iapply (wp_hlo_within 𝒱 (SparseCore.T d) none Set.univ (op := opR_v7) (S := S12) hopR_v7 (V := V7 m d)) $$ [Hb Hheld]
  · isplitl [Hb] <;> iassumption
  iintro ⟨Hb, Hheld⟩
  rw [wp_ret]; imodintro
  ihave Hh := (Entails.of_eq (held_V8 (F := F) m d)) $$ Hheld
  icases Hh with ⟨Ha0, Ha1, Ha2, -, H1, -, H3, -, H5, -, H7, Ho⟩
  iapply ((K (F := F)).wp_run (D (F := F)) 𝒱 (EH := EH) (P := P (tbOf m) m) κ d 0) $$ [Hst H1 H3 H5 H7 Ho Hb Ha0 Ha1 Ha2 Hts]
  isplitr; · iexact Hctx
  isplitl [Hst]; · iexact Hst
  isplitl [H1 H3 H5 H7 Ho]
  · rw [st_eq]
    isplitr [Ho]; swap; · iexact Ho
    isplitl [H1]; · iexact H1
    isplitl [H3]; · iexact H3
    isplitl [H5] <;> iassumption
  iintro ⟨Hst, Hdn⟩
  ihave Hdn' := (Entails.of_eq (dn_eq m (tbOf m) d)) $$ Hdn
  icases Hdn' with ⟨⟨-, Ho⟩, Hbars⟩
  imodintro
  isplitl [Hst]; · iexact Hst
  isplitr [Hb Hts]
  · isplitl [Ha0]; · iexact Ha0
    isplitl [Ha1]; · iexact Ha1
    isplitl [Ha2]; · iexact Ha2
    isplitl [Ho] <;> iassumption
  isplitl [Hb] <;> iassumption

/-! ## The final state -/

/-- What the claims read of a device's final state. -/
def fq (d : Dev nD) (s' : Phys nD τ sig (Elt F)) : Prop :=
  s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ s'.mem.mem (oLoc d) = oR (tbOf m) d
    ∧ ∀ (c : Fin 2) (i : Fin 16), s'.mem.sem (bcell d (coreOf (F := F) c) i) = 0

omit [FloatOps F] in
/-- An array held whole is read off the final state. -/
theorem whole_read (ℓ : Loc nD τ sig) (f : Buf (Elt F) ℓ) (s' : Phys nD τ sig (Elt F)) : iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) :=
  fun x hx =>
    ⟨((sep_mono_left sep_elim_left).trans (whole_read _ _ s')) x hx,
      ((sep_mono_left (sep_elim_right.trans sep_elim_left)).trans (whole_read _ _ s')) x hx,
      ((sep_mono_left (sep_elim_right.trans (sep_elim_right.trans sep_elim_left))).trans (whole_read _ _ s')) x hx,
      ((sep_mono_left (sep_elim_right.trans (sep_elim_right.trans (sep_elim_right.trans sep_elim_left)))).trans (whole_read _ _ s')) x hx,
      fun c i => ((sep_mono_left (sep_elim_right.trans (sep_elim_right.trans (sep_elim_right.trans (sep_elim_right.trans
        ((SparseCore.ent (bigSep_elim (Φ := fun c : Fin 2 => bars (F := F) d (coreOf (F := F) c)) (Finset.mem_univ c))).trans
          (SparseCore.ent (bigSep_elim (Φ := fun i : Fin 16 => (semVal (bcell d (coreOf (F := F) c) i) 0 : sProp 𝕄)) (Finset.mem_univ i))))))))).trans
        (SparseCore.Cfg.semVal_zero_read _ s')) x hx⟩

/-- The barrier semaphores end at zero. -/
theorem hA (s' : Phys nD τ sig (Elt F)) (h : ∀ d, fq m d s') (g : GSem nD τ sig) (hg : g ∈ keys sc_bar0) : s'.mem.sem g = 0 := by
  obtain ⟨⟨d, c, i⟩, -, rfl⟩ := Finset.mem_image.mp hg
  exact (h d).2.2.2.2 c i

/-! ## The program's run -/

/-- What a run ends with. -/
def QC : PUnit × MemSt nD τ sig (Elt F) → Prop := fun r =>
  (∀ d : Dev nD, r.2.mem ((SparseCore.T d).loc main_arg0) = m ((SparseCore.T d).loc main_arg0)
    ∧ r.2.mem ((SparseCore.T d).loc main_arg1) = m ((SparseCore.T d).loc main_arg1)
    ∧ r.2.mem ((SparseCore.T d).loc main_arg2) = m ((SparseCore.T d).loc main_arg2)
    ∧ r.2.mem (oLoc d) = oR (tbOf m) d) ∧ r.2.sem = fun _ => 0

/-- Handed lists of nodes, the program runs: the arguments as they were, the result computed, every semaphore at zero. -/
theorem run_main [∀ e, Nonempty (Elt F e)] (hk : ∀ d, (tbOf m d).Ok) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tbOf m) m) (hA := hA m) facts v₀
    (fun q hq => match q with | 0 => nomatch hq)
    (fun q _ => match q with | 0 => tileObl (tbOf m) m hk facts)
    (fun q _ => match q with | 0 => vecSplit (tbOf m) m)
    m ρ main (fun _ => iprop(emp)) (FIN m) (u₀ (F := F)) (hu₀ (tbOf m) m) (hmain m ρ) (fq m) (hfin m) (QC m)
    (fun _ h hz => ⟨fun d => ⟨(h d).1, (h d).2.1, (h d).2.2.1, (h d).2.2.2.1⟩, hz⟩)

end

end Cert.Proof.KI

end
-- ==== Proof.KI.Frame.lean ====
/- The lists handed to the call are the rows of the index arrays, and so, under the range precondition, lists of nodes. -/
module

public import proofs.«01_k».proof.Proof.KI.Launch
public import proofs.«01_k».proof.Proof.Range

@[expose] public section

noncomputable section

namespace Cert.Proof.KI

open Cert.KernelIdeal Cert.KernelIdeal.Gen Cert.Proof.Vals

open Idealize.ShloMosaic

open Idealize.ShloMosaic.TcCoe Idealize.SL.Sem

variable {F : FTy → Type} [FloatOps F] (m : (ℓ : Loc nD τ sig) → Buf (Elt F) ℓ) (ρ : Dev nD → PrngReg)

/-- The first list is row 0 of the first index array. -/
theorem hd_eq (d : Dev nD) : V8 m d r_v1 = rowOf 0 (m ((SparseCore.T d).loc main_arg1)) := by
  unfold V8 V7 V6 V5 V4 V3
  rw [(opR_v7 (F := F)).result_of_not_mem _ (show r_v1 ∉ ({r_v7} : Finset (DevRef τ sig)) by decide),
    (opS_v6 (F := F)).result_of_not_mem _ (show r_v1 ∉ ({r_v6} : Finset (DevRef τ sig)) by decide),
    (opR_v5 (F := F)).result_of_not_mem _ (show r_v1 ∉ ({r_v5} : Finset (DevRef τ sig)) by decide),
    (opS_v4 (F := F)).result_of_not_mem _ (show r_v1 ∉ ({r_v4} : Finset (DevRef τ sig)) by decide),
    (opR_v3 (F := F)).result_of_not_mem _ (show r_v1 ∉ ({r_v3} : Finset (DevRef τ sig)) by decide),
    (opS_v2 (F := F)).result_of_not_mem _ (show r_v1 ∉ ({r_v2} : Finset (DevRef τ sig)) by decide)]
  refine (StableHlo.reshape_result ..).trans ?_
  unfold V1
  rw [show (opS_v0 (F := F)).result (V0 m d) r_v0 = _ from StableHlo.unary_result ..]
  exact flat_row 0 _ _ rfl _ _

/-- The second list is row 1 of the first index array. -/
theorem tl_eq (d : Dev nD) : V8 m d r_v3 = rowOf 1 (m ((SparseCore.T d).loc main_arg1)) := by
  unfold V8 V7 V6 V5
  rw [(opR_v7 (F := F)).result_of_not_mem _ (show r_v3 ∉ ({r_v7} : Finset (DevRef τ sig)) by decide),
    (opS_v6 (F := F)).result_of_not_mem _ (show r_v3 ∉ ({r_v6} : Finset (DevRef τ sig)) by decide),
    (opR_v5 (F := F)).result_of_not_mem _ (show r_v3 ∉ ({r_v5} : Finset (DevRef τ sig)) by decide),
    (opS_v4 (F := F)).result_of_not_mem _ (show r_v3 ∉ ({r_v4} : Finset (DevRef τ sig)) by decide)]
  refine (StableHlo.reshape_result ..).trans ?_
  unfold V3
  rw [show (opS_v2 (F := F)).result (V2 m d) r_v2 = _ from StableHlo.unary_result ..]
  unfold V2 V1
  rw [(opR_v1 (F := F)).result_of_not_mem _ (show r_arg1 ∉ ({r_v1} : Finset (DevRef τ sig)) by decide),
    (opS_v0 (F := F)).result_of_not_mem _ (show r_arg1 ∉ ({r_v0} : Finset (DevRef τ sig)) by decide)]
  exact flat_row 1 _ _ rfl _ _

/-- The third list is row 0 of the second index array. -/
theorem sr_eq (d : Dev nD) : V8 m d r_v5 = rowOf 0 (m ((SparseCore.T d).loc main_arg2)) := by
  unfold V8 V7
  rw [(opR_v7 (F := F)).result_of_not_mem _ (show r_v5 ∉ ({r_v7} : Finset (DevRef τ sig)) by decide),
    (opS_v6 (F := F)).result_of_not_mem _ (show r_v5 ∉ ({r_v6} : Finset (DevRef τ sig)) by decide)]
  refine (StableHlo.reshape_result ..).trans ?_
  unfold V5
  rw [show (opS_v4 (F := F)).result (V4 m d) r_v4 = _ from StableHlo.unary_result ..]
  unfold V4 V3 V2 V1
  rw [(opR_v3 (F := F)).result_of_not_mem _ (show r_arg2 ∉ ({r_v3} : Finset (DevRef τ sig)) by decide),
    (opS_v2 (F := F)).result_of_not_mem _ (show r_arg2 ∉ ({r_v2} : Finset (DevRef τ sig)) by decide),
    (opR_v1 (F := F)).result_of_not_mem _ (show r_arg2 ∉ ({r_v1} : Finset (DevRef τ sig)) by decide),
    (opS_v0 (F := F)).result_of_not_mem _ (show r_arg2 ∉ ({r_v0} : Finset (DevRef τ sig)) by decide)]
  exact flat_row 0 _ _ rfl _ _

/-- The fourth list is row 1 of the second index array. -/
theorem ds_eq (d : Dev nD) : V8 m d r_v7 = rowOf 1 (m ((SparseCore.T d).loc main_arg2)) := by
  refine (StableHlo.reshape_result ..).trans ?_
  unfold V7
  rw [show (opS_v6 (F := F)).result (V6 m d) r_v6 = _ from StableHlo.unary_result ..]
  unfold V6 V5 V4 V3 V2 V1
  rw [(opR_v5 (F := F)).result_of_not_mem _ (show r_arg2 ∉ ({r_v5} : Finset (DevRef τ sig)) by decide),
    (opS_v4 (F := F)).result_of_not_mem _ (show r_arg2 ∉ ({r_v4} : Finset (DevRef τ sig)) by decide),
    (opR_v3 (F := F)).result_of_not_mem _ (show r_arg2 ∉ ({r_v3} : Finset (DevRef τ sig)) by decide),
    (opS_v2 (F := F)).result_of_not_mem _ (show r_arg2 ∉ ({r_v2} : Finset (DevRef τ sig)) by decide),
    (opR_v1 (F := F)).result_of_not_mem _ (show r_arg2 ∉ ({r_v1} : Finset (DevRef τ sig)) by decide),
    (opS_v0 (F := F)).result_of_not_mem _ (show r_arg2 ∉ ({r_v0} : Finset (DevRef τ sig)) by decide)]
  exact flat_row 1 _ _ rfl _ _

/-- The lists handed to the call are the rows of the index arrays. -/
theorem tbOf_eq (d : Dev nD) : tbOf m d = rows (m ((SparseCore.T d).loc main_arg1)) (m ((SparseCore.T d).loc main_arg2)) := by
  unfold tbOf rows
  rw [hd_eq, tl_eq, sr_eq, ds_eq]

/-- Under the range precondition the program runs: the arguments as they were, the result computed, every semaphore at zero. -/
theorem run_pre [Cert.Pre_in_range.Facts] [∀ e, Nonempty (Elt F e)]
    (hp : ∀ d : Dev nD, Cert.Pre_in_range.fn (F := F) (m ((SparseCore.T d).loc main_arg0)) (m ((SparseCore.T d).loc main_arg1))
      (m ((SparseCore.T d).loc main_arg2)) = fun _ => 1#1) :
    θ_run (Cert.KernelIdeal.defs (F := F)) (Cert.KernelIdeal.threads (F := F)) ⟨m, fun _ => 0, ρ⟩ (QC m) :=
  run_main m ρ fun d => by
    rw [tbOf_eq]
    exact rows_ok _ _ (in_range _ _ _ (hp d)).1 (in_range _ _ _ (hp d)).2

end Cert.Proof.KI

end
-- ==== Proof.Counts.lean ====
/- The kernel's values over the extended reals: a tile's table holds, at each bin, how often the bin occurs in the tile's
   sequence; the sixteen tables summed count the whole list; the result is half the sum of two such counts. -/
module

public import proofs.«01_k».proof.Proof.Vals
public import Idealize.ShloMosaic.Lib.IdealHost

@[expose] public section

noncomputable section

namespace Cert.Proof.Vals

open Idealize.ShloMosaic
open scoped BigOperators

/-- How often `b` occurs among the first `n` terms of a sequence. -/
def occ (w : ℕ → ℕ) (n b : ℕ) : ℕ := ∑ q ∈ Finset.range n, if w q = b then 1 else 0

theorem zeroF_ideal : (zeroF : Ideal .f32) = (0 : EReal) := by
  show Ideal.ofBits .f32 0x00000000#32 = 0
  simp [Ideal.ofBits, Ideal.ieee]

theorem oneF_ideal : (oneF : Ideal .f32) = (1 : EReal) := Ideal.ofBits_one_f32

theorem halfF_ideal : (halfF : Ideal .f32) = (((1 : ℝ) / 2 : ℝ) : EReal) := by
  show Ideal.ofBits .f32 0x3F000000#32 = _
  simp [Ideal.ofBits, Ideal.ieee, -EReal.coe_mul]; norm_num

theorem twoF_ideal : (Ideal.ofBits .f32 0x40000000#32 : EReal) = ((2 : ℝ) : EReal) := by
  simp [Ideal.ofBits, Ideal.ieee, -EReal.coe_mul]; norm_num

/-- A table over the extended reals is the table of occurrences. -/
theorem tally_ideal (w : ℕ → ℕ) (n b : ℕ) : (tally (F := Ideal) w n b : EReal) = (occ w n b : EReal) := by
  induction n with
  | zero =>
    refine (zeroF_ideal).trans ?_
    simp [occ]
  | succ n ih =>
    have e : occ w (n + 1) b = occ w n b + if w n = b then 1 else 0 := Finset.sum_range_succ _ _
    rw [tally, e]
    by_cases h : b = w n
    · rw [if_pos h, if_pos h.symm]
      refine (Ideal.idxAddf_def _ _).trans ?_
      rw [ih, oneF_ideal, Nat.cast_add, Nat.cast_one]
    · rw [if_neg h, if_neg (fun e => h e.symm), ih, Nat.add_zero]

/-- The tables' partial sums are the occurrences' partial sums. -/
theorem part_ideal (tb : Tabs) (n b : ℕ) :
    (part (F := Ideal) tb n b : EReal) = ((∑ k ∈ Finset.range n, occ (bins tb k) 40000 b : ℕ) : EReal) := by
  induction n with
  | zero =>
    refine (zeroF_ideal).trans ?_
    simp
  | succ n ih =>
    rw [part, Finset.sum_range_succ, Nat.cast_add]
    refine (Ideal.addf_def _ _).trans ?_
    rw [ih, hist, tally_ideal]

/-- The chunks of a list, one after the other, are the list. -/
theorem occ_chunks (f : ℕ → ℕ) (c b n : ℕ) :
    ∑ k ∈ Finset.range n, occ (fun q => f (c * k + q)) c b = occ f (c * n) b := by
  induction n with
  | zero => simp [occ]
  | succ n ih =>
    rw [Finset.sum_range_succ, ih, Nat.mul_succ]
    unfold occ
    rw [Finset.sum_range_add]

/-- The first half of a tile's sequence of bins. -/
theorem bins_fst (tb : Tabs) (k q : ℕ) (hq : q < 20000) : bins tb k q = ent tb.ds (20000 * k + q) := if_pos hq

/-- The second half of a tile's sequence of bins. -/
theorem bins_snd (tb : Tabs) (k q : ℕ) : bins tb k (20000 + q) = ent tb.sr (20000 * k + q) + 10240 := by
  refine (if_neg (Nat.not_lt.mpr (Nat.le_add_right _ _))).trans ?_
  rw [Nat.add_sub_cancel_left]

/-- A tile's occurrences of a lower bin: those among its chunk of the destinations. -/
theorem occ_low (tb : Tabs) (k b : ℕ) (hb : b < 10000) :
    occ (bins tb k) 40000 b = occ (fun q => ent tb.ds (20000 * k + q)) 20000 b := by
  unfold occ
  rw [show 40000 = 20000 + 20000 from rfl, Finset.sum_range_add, Nat.add_eq_left.mpr]
  · refine Finset.sum_congr rfl fun q hq => ?_
    rw [bins_fst tb k q (Finset.mem_range.mp hq)]
  · refine Finset.sum_eq_zero fun q _ => ?_
    rw [bins_snd, if_neg (by omega)]

/-- A tile's occurrences of an upper bin: those among its chunk of the sources. -/
theorem occ_high (tb : Tabs) (hk : tb.Ok) (k b : ℕ) :
    occ (bins tb k) 40000 (b + 10240) = occ (fun q => ent tb.sr (20000 * k + q)) 20000 b := by
  unfold occ
  rw [show 40000 = 20000 + 20000 from rfl, Finset.sum_range_add, Nat.add_eq_right.mpr]
  · refine Finset.sum_congr rfl fun q hq => ?_
    rw [bins_snd]
    exact if_congr Nat.add_right_cancel_iff rfl rfl
  · refine Finset.sum_eq_zero fun q hq => ?_
    have := ent_lt hk.ds (20000 * k + q)
    rw [bins_fst tb k q (Finset.mem_range.mp hq), if_neg (by omega)]

/-- The summed tables count the destinations in their lower half. -/
theorem tot_low (tb : Tabs) (b : ℕ) (hb : b < 10000) : (tot (F := Ideal) tb b : EReal) = (occ (ent tb.ds) 320000 b : EReal) := by
  rw [tot, part_ideal, Finset.sum_congr rfl fun k _ => occ_low tb k b hb, occ_chunks (ent tb.ds) 20000 b 16]

/-- The summed tables count the sources in their upper half. -/
theorem tot_high (tb : Tabs) (hk : tb.Ok) (b : ℕ) : (tot (F := Ideal) tb (b + 10240) : EReal) = (occ (ent tb.sr) 320000 b : EReal) := by
  rw [tot, part_ideal, Finset.sum_congr rfl fun k _ => occ_high tb hk k b, occ_chunks (ent tb.sr) 20000 b 16]

/-- The result at edge `n`: half the sum of two counts. -/
theorem res_ideal (tb : Tabs) (hk : tb.Ok) (n : ℕ) :
    (res (F := Ideal) tb n : EReal)
      = ((occ (ent tb.ds) 320000 (ent tb.tl n) : EReal) + (occ (ent tb.sr) 320000 (ent tb.hd n) : EReal)) * (((1 : ℝ) / 2 : ℝ) : EReal) := by
  rw [res]
  refine (Ideal.mulf_def _ _).trans ?_
  rw [halfF_ideal]
  refine congrArg (· * _) ((Ideal.addf_def _ _).trans ?_)
  rw [tot_low tb _ (ent_lt hk.tl n), tot_high tb hk]

end Cert.Proof.Vals

end
-- ==== Proof.Ref.lean ====
/- The reference's values over the extended reals: a scatter of ones onto zeros counts each node's occurrences, a gather
   reads the counts at an edge's end points, and the result is half their sum. -/
module

public import proofs.«01_k».proof.Proof.Counts
public import proofs.«01_k».proof.Proof.Range
public import proofs.«01_k».proof.Proof.Gen.ReferenceIdeal.Run
public import Idealize.ShloMosaic.Lib.StableHlo.Predicate
public import Idealize.ShloMosaic.Lib.Routing.OpsPair

@[expose] public section

noncomputable section

namespace Cert.Proof.Ref

open Cert.ReferenceIdeal Cert.ReferenceIdeal.Gen Cert.Proof.Vals
open Idealize.ShloMosaic Idealize.ShloMosaic.TcCoe Idealize.ShloMosaic.StableHlo.Predicate Idealize.SL.Sem
open scoped BigOperators

/-- An index list with its negative entries counted from the end. -/
abbrev wrapped (f : IVec S320000 32) : IVec S320000 32 :=
  select (cmpi .slt f (broadcastInDim S320000 ![] bcast_S_S320000 (constantI S_ 32 0#32)))
    (addi f (broadcastInDim S320000 ![] bcast_S_S320000 (constantI S_ 32 10000#32))) f

/-- An index list as a column. -/
abbrev column (f : IVec S320000 32) : IVec S320000x1 32 := broadcastInDim S320000x1 ![0] bcast_S320000_S320000x1_0 f

/-- A small word is not negative, read signed. -/
theorem small_int (x : BitVec 32) (h : x.toNat < 10000) : x.toInt = (x.toNat : ℤ) := by
  rw [BitVec.toInt_eq_toNat_cond, if_pos (by omega)]

/-- No entry of a list of nodes is negative. -/
theorem wrapped_eq (f : IVec S320000 32) (h : ∀ j, (f j).toNat < 10000) : wrapped f = f := by
  funext j
  refine if_neg fun e => ?_
  have h0 : (f j).toInt < (0#32 : BitVec 32).toInt := IntOp.cmpi_slt.1 e
  rw [small_int _ (h j), show (0#32 : BitVec 32).toInt = 0 from by decide] at h0
  omega

/-- A column reads its list. -/
theorem column_at (f : IVec S320000 32) (p : Fin 320000) : column f (ixP p) = f (Shape.Idx.ofFin p) := bcast_col1 _ f p

/-- The number of a position. -/
theorem ofFin_val {n : ℕ} (p : Fin n) : ((Shape.Idx.ofFin p : (L1 n).Idx) 0).val = p.val := rfl

/-- A position is its number's. -/
theorem ofFin_self {n : ℕ} (j : (L1 n).Idx) : (Shape.Idx.ofFin (j 0) : (L1 n).Idx) = j := idx_ext rfl

/-- Update `j` of the scatter lands at the node its entry names. -/
theorem lands (f : IVec S320000 32) (h : ∀ j, (f j).toNat < 10000) (j : S320000.Idx) (i : S10000.Idx) :
    scatter_S10000_S320000x1_S320000_n_0_0_1.resultIdx? j (column f) = some i ↔ (f j).toNat = (i 0).val := by
  have hw : ∀ a, scatter_S10000_S320000x1_S320000_n_0_0_1.window j a = 0 := by
    intro a
    obtain rfl : a = 0 := Subsingleton.elim _ _
    unfold ScatterDims.window
    exact dif_neg fun e => (of_decide_eq_true (List.mem_filter.1 e).2) (List.mem_singleton.2 rfl)
  have hs : scatter_S10000_S320000x1_S320000_n_0_0_1.start j (column f) 0 = (f j).toInt := by
    have hm : (0 : Fin 1) ∈ scatter_S10000_S320000x1_S320000_n_0_0_1.scatterDimsToOperandDims := List.mem_singleton.2 rfl
    have hv : scatter_S10000_S320000x1_S320000_n_0_0_1.indexVectorDim = 1 := rfl
    unfold ScatterDims.start
    rw [dif_pos hm]
    refine congrArg BitVec.toInt ?_
    refine (congrArg (column f) (a₂ := ixP (n := 320000) (j 0)) (funext fun b => Fin.ext ?_)).trans ((column_at f (j 0)).trans (congrArg f (ofFin_self j)))
    match b with
    | ⟨0, _⟩ =>
      unfold ScatterDims.siIdx
      rw [dif_neg (by rw [hv]; exact Nat.zero_ne_one)]
      unfold ScatterDims.siCoord
      have e : ∀ x : Fin 1, (j x).val = (j 0).val := fun x => by
        obtain rfl : x = 0 := Subsingleton.elim _ _
        rfl
      exact e _
    | ⟨1, _⟩ =>
      unfold ScatterDims.siIdx
      rw [dif_pos (by rw [hv])]
      rfl
  rw [Routing.resultIdx?_eq_some]
  constructor
  · intro e
    have e0 := e 0
    rw [hw, hs, small_int _ (h j)] at e0
    omega
  · intro e a
    obtain rfl : a = 0 := Subsingleton.elim _ _
    rw [hw, hs, small_int _ (h j)]
    omega

/-- The number of a list's entries that name a node. -/
theorem card_occ (f : IVec S320000 32) (b : ℕ) [DecidablePred fun j : S320000.Idx => (f j).toNat = b] :
    (Finset.univ.filter fun j : S320000.Idx => (f j).toNat = b).card = occ (ent f) 320000 b := by
  unfold occ
  rw [← Finset.card_filter]
  refine Finset.card_bij (fun j _ => (j 0).val) (fun j hj => ?_) (fun j _ j' _ e => idx_ext e) (fun q hq => ?_)
  · exact Finset.mem_filter.2 ⟨Finset.mem_range.2 (j 0).isLt, (ent_eq f j _ rfl).symm.trans (Finset.mem_filter.1 hj).2⟩
  · obtain ⟨h1, h2⟩ := Finset.mem_filter.1 hq
    have h1 := Finset.mem_range.1 h1
    exact ⟨ix q h1, Finset.mem_filter.2 ⟨Finset.mem_univ _, (ent_eq f (ix q h1) q rfl).trans h2⟩, rfl⟩

/-- The counts of a list's entries. -/
abbrev counts (f : IVec S320000 32) : FVec Ideal S10000 .f32 :=
  Host.scatterAdd scatter_S10000_S320000x1_S320000_n_0_0_1 (broadcastInDim S10000 ![] bcast_S_S10000 (constant S_ .f32 0x00000000#32))
    (column f) (broadcastInDim S320000 ![] bcast_S_S320000 (constant S_ .f32 0x3F800000#32))

/-- The scatter counts. -/
theorem counts_eq (f : IVec S320000 32) (h : ∀ j, (f j).toNat < 10000) (i : S10000.Idx) :
    (counts f i : EReal) = (occ (ent f) 320000 (i 0).val : EReal) := by
  classical
  have e0 : (counts f i : EReal) = Ideal.ofBits .f32 0x00000000#32
      + ∑ j ∈ Finset.univ.filter (fun j => scatter_S10000_S320000x1_S320000_n_0_0_1.resultIdx? j (column f) = some i), Ideal.ofBits .f32 0x3F800000#32 := by
    refine (?_ : Ideal.hostScatterAdd _ _ _ _ _ = _)
    unfold Ideal.hostScatterAdd
    congr
  rw [e0, Finset.sum_const, show (Ideal.ofBits .f32 0x3F800000#32 : EReal) = 1 from oneF_ideal,
    show (Ideal.ofBits .f32 0x00000000#32 : EReal) = 0 from zeroF_ideal, zero_add, nsmul_one, ← card_occ f (i 0).val]
  refine congrArg (fun n : ℕ => (n : EReal)) (congrArg Finset.card (Finset.filter_congr fun j _ => lands f h j i))

/-- The gather reads the table at the node an entry names. -/
theorem take_eq (x : FVec Ideal S10000 .f32) (f : IVec S320000 32) (h : ∀ j, (f j).toNat < 10000) (j : S320000.Idx) :
    Host.gather gather_S10000_S320000x1_S320000_n_0_n_n_0_1_1 x (column f) j = x (Shape.Idx.ofFin ⟨(f j).toNat, h j⟩) := by
  refine (congrArg _ (ofFin_self j).symm).trans ((gather_take gather_S10000_S320000x1_S320000_n_0_n_n_0_1_1 rfl rfl rfl rfl x (column f) (j 0) (by omega)).trans ?_)
  refine congrArg x (idx_ext ?_)
  rw [ofFin_val, ofFin_val]
  have hc : column f (ixP (n := 320000) (j 0)) = f j := (column_at f (j 0)).trans (congrArg f (ofFin_self j))
  have h1 : (column f (ixP (n := 320000) (j 0))).toInt.toNat = (f j).toNat := by rw [hc, small_int _ (h j), Int.toNat_natCast]
  have h2 := h j
  refine (congrArg (fun n => min n (10000 - 1)) h1).trans ?_
  exact min_eq_left (by omega)

/-- The reference's result: half the sum of the counts at the edge's end points. -/
abbrev outR (tl hd sr ds : IVec S320000 32) : FVec Ideal S320000 .f32 :=
  Host.divf (addf (Host.gather gather_S10000_S320000x1_S320000_n_0_n_n_0_1_1 (counts (wrapped ds)) (column (wrapped tl)))
      (Host.gather gather_S10000_S320000x1_S320000_n_0_n_n_0_1_1 (counts (wrapped sr)) (column (wrapped hd))))
    (broadcastInDim S320000 ![] bcast_S_S320000 (constant S_ .f32 0x40000000#32))

/-- The reference's result is the kernel's, element by element. -/
theorem outR_eq (tb : Tabs) (hk : tb.Ok) (j : S320000.Idx) : outR tb.tl tb.hd tb.sr tb.ds j = res (F := Ideal) tb (j 0).val := by
  unfold outR
  rw [wrapped_eq _ hk.tl, wrapped_eq _ hk.hd, wrapped_eq _ hk.sr, wrapped_eq _ hk.ds]
  refine (?_ : Ideal.div (Host.gather gather_S10000_S320000x1_S320000_n_0_n_n_0_1_1 (counts tb.ds) (column tb.tl) j
    + Host.gather gather_S10000_S320000x1_S320000_n_0_n_n_0_1_1 (counts tb.sr) (column tb.hd) j : EReal) (Ideal.ofBits .f32 0x40000000#32) = _)
  rw [take_eq _ _ hk.tl, take_eq _ _ hk.hd, counts_eq _ hk.ds, counts_eq _ hk.sr, twoF_ideal, ofFin_val, ofFin_val]
  refine Eq.trans ?_ (res_ideal tb hk (j 0).val).symm
  rw [← ent_eq tb.tl j (j 0).val rfl, ← ent_eq tb.hd j (j 0).val rfl]
  unfold Ideal.div
  rw [if_neg (by norm_num), ← EReal.coe_inv, one_div]

/-- The same, of lists that are the tables' lists. -/
theorem outR_rows (tb : Tabs) (hk : tb.Ok) (tl hd sr ds : IVec S320000 32) (h1 : tl = tb.tl) (h2 : hd = tb.hd) (h3 : sr = tb.sr)
    (h4 : ds = tb.ds) : outR tl hd sr ds = fun j => res (F := Ideal) tb (j 0).val := by
  subst h1 h2 h3 h4
  exact funext fun j => outR_eq tb hk j

end Cert.Proof.Ref

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.K.Frame
public import proofs.«01_k».proof.Proof.KI.Frame
public import proofs.«01_k».proof.Proof.Ref
public import Idealize.ShloMosaic.Adequacy
public import Idealize.ShloMosaic.Init

@[expose] public section

noncomputable section

namespace Cert.Proof

open Idealize.ShloMosaic Idealize.SL.Sem

/-- The kernel runs under the range precondition, its arguments unchanged and every semaphore back at zero. -/
theorem frame_k : Cert.quiescent_Kernel := fun m ρ hp =>
  (θ_run Cert.Kernel.defs _ _).mono (fun _ h => ⟨fun c => ⟨(h.1 c).1, (h.1 c).2.1, (h.1 c).2.2.1⟩, h.2⟩)
    (K.run_pre (F := Bits) m ρ hp)

/-- The same of the kernel's idealization. -/
theorem frame_ki : Cert.quiescent_KernelIdeal := fun m ρ hp =>
  (θ_run Cert.KernelIdeal.defs _ _).mono (fun _ h => ⟨fun c => ⟨(h.1 c).1, (h.1 c).2.1, (h.1 c).2.2.1⟩, h.2⟩)
    (KI.run_pre (F := Ideal) m ρ hp)

/-- The reference has no semaphore, and so none away from zero. -/
theorem no_sems (s : MemSt Cert.ReferenceIdeal.nD Cert.ReferenceIdeal.τ Cert.ReferenceIdeal.sig (Elt Ideal)) : s.sem = fun _ => 0 :=
  Idealize.ShloMosaic.sem_eq_zero_of_no_sems (by decide) s

/-- The reference runs from any arguments, which end unchanged, every semaphore at zero. -/
theorem frame_r : Cert.quiescent_ReferenceIdeal := fun m ρ _ =>
  (θ_run Cert.ReferenceIdeal.defs _ _).mono (fun r h => ⟨fun c => (h c).2, no_sems r.2⟩)
    (Cert.ReferenceIdeal.Value.run (F := Ideal) m ρ)

/-- The same under the range precondition. -/
theorem frame_r_pre : Cert.quiescent_ReferenceIdeal_pre_in_range := fun m ρ _ =>
  (θ_run Cert.ReferenceIdeal.defs _ _).mono (fun r h => ⟨fun c => (h c).2, no_sems r.2⟩)
    (Cert.ReferenceIdeal.Value.run (F := Ideal) m ρ)

/-- The reference's result from the rows of its index arrays, laid out as its operations lay them. -/
theorem ref_out (a1 a2 : Vals.E2.Idx → BitVec 32) (h1 : ∀ i, (a1 i).toNat < 10000) (h2 : ∀ i, (a2 i).toNat < 10000) :
    Ref.outR
      (shapeCast Cert.ReferenceIdeal.S320000 (extractStridedSlice Cert.ReferenceIdeal.S1x320000 ![1, 0] a1 Cert.ReferenceIdeal.Gen.slices_S2x320000_S1x320000_1_0) Cert.ReferenceIdeal.Gen.shapeCasts_S1x320000_S320000)
      (shapeCast Cert.ReferenceIdeal.S320000 (extractStridedSlice Cert.ReferenceIdeal.S1x320000 ![0, 0] a1 Cert.ReferenceIdeal.Gen.slices_S2x320000_S1x320000_0_0) Cert.ReferenceIdeal.Gen.shapeCasts_S1x320000_S320000)
      (shapeCast Cert.ReferenceIdeal.S320000 (extractStridedSlice Cert.ReferenceIdeal.S1x320000 ![0, 0] a2 Cert.ReferenceIdeal.Gen.slices_S2x320000_S1x320000_0_0) Cert.ReferenceIdeal.Gen.shapeCasts_S1x320000_S320000)
      (shapeCast Cert.ReferenceIdeal.S320000 (extractStridedSlice Cert.ReferenceIdeal.S1x320000 ![1, 0] a2 Cert.ReferenceIdeal.Gen.slices_S2x320000_S1x320000_1_0) Cert.ReferenceIdeal.Gen.shapeCasts_S1x320000_S320000)
    = fun j => Vals.res (F := Ideal) (Vals.rows a1 a2) (j 0).val := by
  exact Ref.outR_rows (Vals.rows a1 a2) (Vals.rows_ok a1 a2 h1 h2) _ _ _ _ (Vals.flat_row 1 a1 _ rfl _ _) (Vals.flat_row 0 a1 _ rfl _ _)
    (Vals.flat_row 0 a2 _ rfl _ _) (Vals.flat_row 1 a2 _ rfl _ _)

/-- Over the extended reals the kernel's result is the reference's, element by element. -/
theorem algebraic : Cert.algebraic_KernelIdeal_ReferenceIdeal := by
  intro m ρ m' ρ' hp hag
  refine ⟨fun c => KI.oR (KI.tbOf m) c, ?_, ?_⟩
  · exact (θ_run Cert.KernelIdeal.defs _ _).mono (fun _ h c => ⟨(h.1 c).2.2.2, (h.1 c).1, (h.1 c).2.1, (h.1 c).2.2.1⟩)
      (KI.run_pre (F := Ideal) m ρ hp)
  · refine (θ_run Cert.ReferenceIdeal.defs _ _).mono (fun _ h c => ⟨(h c).1.trans ?_, (h c).2⟩)
      (Cert.ReferenceIdeal.Value.run (F := Ideal) m' ρ')
    obtain ⟨h1, h2⟩ := Vals.in_range _ _ _ (hp c)
    rw [(hag c).2.1, (hag c).2.2]
    refine (ref_out _ _ h1 h2).trans ?_
    exact funext fun j => congrArg (fun tb => Vals.res (F := Ideal) tb (j 0).val) (KI.tbOf_eq m c).symm

/-- Every claim. -/
theorem claim : Cert.Claim := ⟨Cert.Kernel.Gen.facts, Cert.KernelIdeal.Gen.facts, Cert.ReferenceIdeal.Gen.facts, Cert.Pre_in_range.Gen.facts,
  frame_k, frame_ki, frame_r, frame_r_pre, trivial, algebraic⟩

end Cert.Proof

end
